-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x5000x4 : Shape := ⟨3, ![2, 5000, 4]⟩
abbrev S2x5000 : Shape := ⟨2, ![2, 5000]⟩
abbrev S2x5000x1 : Shape := ⟨3, ![2, 5000, 1]⟩
abbrev S_ : Shape := ⟨0, ![]⟩
abbrev S1 : Shape := ⟨1, ![1]⟩
abbrev S1x1x1 : Shape := ⟨3, ![1, 1, 1]⟩
abbrev S2x5120x4 : Shape := ⟨3, ![2, 5120, 4]⟩
abbrev S2x4x5120 : Shape := ⟨3, ![2, 4, 5120]⟩
abbrev S2x1x5120 : Shape := ⟨3, ![2, 1, 5120]⟩
abbrev S1x5120x4 : Shape := ⟨3, ![1, 5120, 4]⟩
abbrev S1x4x5120 : Shape := ⟨3, ![1, 4, 5120]⟩
abbrev S1x1x5120 : Shape := ⟨3, ![1, 1, 5120]⟩
abbrev S5120x1 : Shape := ⟨2, ![5120, 1]⟩
abbrev S512x512 : Shape := ⟨2, ![512, 512]⟩
abbrev S1x1x512 : Shape := ⟨3, ![1, 1, 512]⟩
abbrev S1x512 : Shape := ⟨2, ![1, 512]⟩
abbrev S1x512x1 : Shape := ⟨3, ![1, 512, 1]⟩
abbrev S512x1 : Shape := ⟨2, ![512, 1]⟩
abbrev S512 : Shape := ⟨1, ![512]⟩
abbrev S2x1x5000 : Shape := ⟨3, ![2, 1, 5000]⟩
abbrev S2x300 : Shape := ⟨2, ![2, 300]⟩
abbrev S2x300x1 : Shape := ⟨3, ![2, 300, 1]⟩
abbrev S2x300x4 : Shape := ⟨3, ![2, 300, 4]⟩
abbrev S2x300x5 : Shape := ⟨3, ![2, 300, 5]⟩

abbrev nBuf : Space → Nat
  | .hbm => 144
  | .vmem => 7
  | .smem => 0
  | _ => 0

abbrev hbmTy0_0 (i : Nat) : BufTy := match i % 128 with
  | 0 => ⟨S2x5000x4, .f32⟩
  | 1 => ⟨S2x5000, .f32⟩
  | 2 => ⟨S2x5000, .i32⟩
  | 3 => ⟨S2x5000, .f32⟩
  | 4 => ⟨S2x5000, .i32⟩
  | 5 => ⟨S2x5000, .f32⟩
  | 6 => ⟨S2x5000, .i32⟩
  | 7 => ⟨S2x5000x1, .i32⟩
  | 8 => ⟨S_, .i32⟩
  | 9 => ⟨S2x5000x1, .i32⟩
  | 10 => ⟨S2x5000x1, .i1⟩
  | 11 => ⟨S_, .i32⟩
  | 12 => ⟨S2x5000x1, .i32⟩
  | 13 => ⟨S2x5000x1, .i32⟩
  | 14 => ⟨S2x5000x1, .i32⟩
  | 15 => ⟨S1, .i32⟩
  | 16 => ⟨S_, .i32⟩
  | 17 => ⟨S2x5000x1, .i32⟩
  | 18 => ⟨S2x5000x1, .i1⟩
  | 19 => ⟨S1x1x1, .i32⟩
  | 20 => ⟨S2x5000x1, .i32⟩
  | 21 => ⟨S2x5000x1, .i1⟩
  | 22 => ⟨S2x5000x1, .i1⟩
  | 23 => ⟨S_, .i1⟩
  | 24 => ⟨S2x5000, .i1⟩
  | 25 => ⟨S2x5000x4, .f32⟩
  | 26 => ⟨S2x5000x4, .i1⟩
  | 27 => ⟨S_, .f32⟩
  | 28 => ⟨S2x5000x4, .f32⟩
  | 29 => ⟨S2x5000x4, .f32⟩
  | 30 => ⟨S_, .i32⟩
  | 31 => ⟨S2x5000, .i32⟩
  | 32 => ⟨S2x5000, .i1⟩
  | 33 => ⟨S_, .i32⟩
  | 34 => ⟨S2x5000, .i32⟩
  | 35 => ⟨S2x5000, .i32⟩
  | 36 => ⟨S2x5000, .i32⟩
  | 37 => ⟨S2x5000x1, .i32⟩
  | 38 => ⟨S1, .i32⟩
  | 39 => ⟨S_, .i32⟩
  | 40 => ⟨S2x5000x1, .i32⟩
  | 41 => ⟨S2x5000x1, .i1⟩
  | 42 => ⟨S1x1x1, .i32⟩
  | 43 => ⟨S2x5000x1, .i32⟩
  | 44 => ⟨S2x5000x1, .i1⟩
  | 45 => ⟨S2x5000x1, .i1⟩
  | 46 => ⟨S_, .i1⟩
  | 47 => ⟨S2x5000, .i1⟩
  | 48 => ⟨S2x5000, .f32⟩
  | 49 => ⟨S_, .f32⟩
  | 50 => ⟨S2x5000, .f32⟩
  | 51 => ⟨S2x5000, .f32⟩
  | 52 => ⟨S_, .i32⟩
  | 53 => ⟨S2x5000, .i32⟩
  | 54 => ⟨S2x5000, .i1⟩
  | 55 => ⟨S_, .i32⟩
  | 56 => ⟨S2x5000, .i32⟩
  | 57 => ⟨S2x5000, .i32⟩
  | 58 => ⟨S2x5000, .i32⟩
  | 59 => ⟨S2x5000x1, .i32⟩
  | 60 => ⟨S1, .i32⟩
  | 61 => ⟨S_, .i32⟩
  | 62 => ⟨S2x5000x1, .i32⟩
  | 63 => ⟨S2x5000x1, .i1⟩
  | 64 => ⟨S1x1x1, .i32⟩
  | 65 => ⟨S2x5000x1, .i32⟩
  | 66 => ⟨S2x5000x1, .i1⟩
  | 67 => ⟨S2x5000x1, .i1⟩
  | 68 => ⟨S_, .i1⟩
  | 69 => ⟨S2x5000, .i1⟩
  | 70 => ⟨S2x5000, .i32⟩
  | 71 => ⟨S_, .i32⟩
  | 72 => ⟨S2x5000, .i32⟩
  | 73 => ⟨S2x5000, .i32⟩
  | 74 => ⟨S2x5000, .f32⟩
  | 75 => ⟨S_, .f32⟩
  | 76 => ⟨S2x5000, .f32⟩
  | 77 => ⟨S2x5000, .f32⟩
  | 78 => ⟨S2x5000x1, .f32⟩
  | 79 => ⟨S2x5000x4, .f32⟩
  | 80 => ⟨S2x5000x4, .f32⟩
  | 81 => ⟨S_, .i32⟩
  | 82 => ⟨S_, .f32⟩
  | 83 => ⟨S2x5120x4, .f32⟩
  | 84 => ⟨S2x4x5120, .f32⟩
  | 85 => ⟨S2x1x5120, .f32⟩
  | 86 => ⟨S2x1x5000, .f32⟩
  | 87 => ⟨S2x5000, .f32⟩
  | 88 => ⟨S_, .f32⟩
  | 89 => ⟨S2x5000, .f32⟩
  | 90 => ⟨S2x5000, .i1⟩
  | 91 => ⟨S_, .f32⟩
  | 92 => ⟨S_, .f32⟩
  | 93 => ⟨S2x5000, .f32⟩
  | 94 => ⟨S2x5000, .f32⟩
  | 95 => ⟨S2x300, .f32⟩
  | 96 => ⟨S2x300, .i32⟩
  | 97 => ⟨S2x300x1, .i32⟩
  | 98 => ⟨S_, .i32⟩
  | 99 => ⟨S2x300x1, .i32⟩
  | 100 => ⟨S2x300x1, .i1⟩
  | 101 => ⟨S_, .i32⟩
  | 102 => ⟨S2x300x1, .i32⟩
  | 103 => ⟨S2x300x1, .i32⟩
  | 104 => ⟨S2x300x1, .i32⟩
  | 105 => ⟨S1, .i32⟩
  | 106 => ⟨S_, .i32⟩
  | 107 => ⟨S2x300x1, .i32⟩
  | 108 => ⟨S2x300x1, .i1⟩
  | 109 => ⟨S1x1x1, .i32⟩
  | 110 => ⟨S2x300x1, .i32⟩
  | 111 => ⟨S2x300x1, .i1⟩
  | 112 => ⟨S2x300x1, .i1⟩
  | 113 => ⟨S_, .i1⟩
  | 114 => ⟨S2x300, .i1⟩
  | 115 => ⟨S2x300x4, .f32⟩
  | 116 => ⟨S2x300x4, .i1⟩
  | 117 => ⟨S_, .f32⟩
  | 118 => ⟨S2x300x4, .f32⟩
  | 119 => ⟨S2x300x4, .f32⟩
  | 120 => ⟨S_, .i32⟩
  | 121 => ⟨S2x300, .i32⟩
  | 122 => ⟨S2x300, .i1⟩
  | 123 => ⟨S_, .i32⟩
  | 124 => ⟨S2x300, .i32⟩
  | 125 => ⟨S2x300, .i32⟩
  | 126 => ⟨S2x300, .i32⟩
  | 127 => ⟨S2x300x1, .i32⟩
  | _ => ⟨S2x5000x4, .f32⟩

abbrev hbmTy0_1 (i : Nat) : BufTy := match i % 128 with
  | 0 => ⟨S1, .i32⟩
  | 1 => ⟨S_, .i32⟩
  | 2 => ⟨S2x300x1, .i32⟩
  | 3 => ⟨S2x300x1, .i1⟩
  | 4 => ⟨S1x1x1, .i32⟩
  | 5 => ⟨S2x300x1, .i32⟩
  | 6 => ⟨S2x300x1, .i1⟩
  | 7 => ⟨S2x300x1, .i1⟩
  | 8 => ⟨S_, .i1⟩
  | 9 => ⟨S2x300, .i1⟩
  | 10 => ⟨S2x300, .i32⟩
  | 11 => ⟨S_, .i32⟩
  | 12 => ⟨S2x300, .i32⟩
  | 13 => ⟨S2x300, .i32⟩
  | 14 => ⟨S2x300x1, .f32⟩
  | 15 => ⟨S2x300x5, .f32⟩
  | _ => ⟨S2x5000x4, .f32⟩

abbrev hbmTy (i : Nat) : BufTy := match i / 128 with
  | 0 => hbmTy0_0 i
  | 1 => hbmTy0_1 i
  | _ => ⟨S2x5000x4, .f32⟩

abbrev bufTy : (tb : Table) → Fin (tcTables nBuf tb) → BufTy
  | .hbm, ⟨i, _⟩ => hbmTy i
  | .local _ .vmem, ⟨0, _⟩ => ⟨S1x5120x4, .f32⟩
  | .local _ .vmem, ⟨1, _⟩ => ⟨S1x5120x4, .f32⟩
  | .local _ .vmem, ⟨2, _⟩ => ⟨S1x4x5120, .f32⟩
  | .local _ .vmem, ⟨3, _⟩ => ⟨S1x4x5120, .f32⟩
  | .local _ .vmem, ⟨4, _⟩ => ⟨S1x1x5120, .f32⟩
  | .local _ .vmem, ⟨5, _⟩ => ⟨S1x1x5120, .f32⟩
  | .local _ .vmem, ⟨6, _⟩ => ⟨S5120x1, .f32⟩
  | _, _ => ⟨S2x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v4 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_c_4 : Ref sig .tc := ⟨.hbm, 71, rfl⟩
abbrev main_call3_v14 : Ref sig .tc := ⟨.hbm, 72, rfl⟩
abbrev main_v5 : Ref sig .tc := ⟨.hbm, 73, rfl⟩
abbrev main_v6 : Ref sig .tc := ⟨.hbm, 74, rfl⟩
abbrev main_cst : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_c : Ref sig .tc := ⟨.hbm, 81, rfl⟩
abbrev main_call4_v0 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_cst_0 : Ref sig .tc := ⟨.hbm, 88, rfl⟩
abbrev main_v17 : Ref sig .tc := ⟨.hbm, 89, rfl⟩
abbrev main_v18 : Ref sig .tc := ⟨.hbm, 90, rfl⟩
abbrev main_cst_1 : Ref sig .tc := ⟨.hbm, 91, rfl⟩
abbrev main_call5_v0 : Ref sig .tc := ⟨.hbm, 92, rfl⟩
abbrev main_call5_v1 : Ref sig .tc := ⟨.hbm, 93, rfl⟩
abbrev main_v19 : Ref sig .tc := ⟨.hbm, 94, rfl⟩
abbrev main_values : Ref sig .tc := ⟨.hbm, 95, rfl⟩
abbrev main_indices : Ref sig .tc := ⟨.hbm, 96, rfl⟩
abbrev main_v20 : Ref sig .tc := ⟨.hbm, 97, rfl⟩
abbrev main_call6_c : Ref sig .tc := ⟨.hbm, 98, rfl⟩
abbrev main_call6_v0 : Ref sig .tc := ⟨.hbm, 99, rfl⟩
abbrev main_call6_v1 : Ref sig .tc := ⟨.hbm, 100, rfl⟩
abbrev main_call6_c_0 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_c_1 : Ref sig .tc := ⟨.hbm, 105, rfl⟩
abbrev main_call6_c_2 : Ref sig .tc := ⟨.hbm, 106, rfl⟩
abbrev main_call6_v5 : Ref sig .tc := ⟨.hbm, 107, rfl⟩
abbrev main_call6_v6 : Ref sig .tc := ⟨.hbm, 108, rfl⟩
abbrev main_call6_v7 : Ref sig .tc := ⟨.hbm, 109, rfl⟩
abbrev main_call6_v8 : Ref sig .tc := ⟨.hbm, 110, rfl⟩
abbrev main_call6_v9 : Ref sig .tc := ⟨.hbm, 111, rfl⟩
abbrev main_call6_v10 : Ref sig .tc := ⟨.hbm, 112, rfl⟩
abbrev main_call6_c_3 : Ref sig .tc := ⟨.hbm, 113, rfl⟩
abbrev main_call6_v11 : Ref sig .tc := ⟨.hbm, 114, rfl⟩
abbrev main_call6_v12 : Ref sig .tc := ⟨.hbm, 115, rfl⟩
abbrev main_call6_v13 : Ref sig .tc := ⟨.hbm, 116, rfl⟩
abbrev main_call6_cst : Ref sig .tc := ⟨.hbm, 117, rfl⟩
abbrev main_call6_v14 : Ref sig .tc := ⟨.hbm, 118, rfl⟩
abbrev main_v21 : Ref sig .tc := ⟨.hbm, 119, rfl⟩
abbrev main_call7_c : Ref sig .tc := ⟨.hbm, 120, rfl⟩
abbrev main_call7_v0 : Ref sig .tc := ⟨.hbm, 121, rfl⟩
abbrev main_call7_v1 : Ref sig .tc := ⟨.hbm, 122, rfl⟩
abbrev main_call7_c_0 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_call7_v5 : Ref sig .tc := ⟨.hbm, 127, rfl⟩
abbrev main_call7_c_1 : Ref sig .tc := ⟨.hbm, 128, rfl⟩
abbrev main_call7_c_2 : Ref sig .tc := ⟨.hbm, 129, rfl⟩
abbrev main_call7_v6 : Ref sig .tc := ⟨.hbm, 130, rfl⟩
abbrev main_call7_v7 : Ref sig .tc := ⟨.hbm, 131, rfl⟩
abbrev main_call7_v8 : Ref sig .tc := ⟨.hbm, 132, rfl⟩
abbrev main_call7_v9 : Ref sig .tc := ⟨.hbm, 133, rfl⟩
abbrev main_call7_v10 : Ref sig .tc := ⟨.hbm, 134, rfl⟩
abbrev main_call7_v11 : Ref sig .tc := ⟨.hbm, 135, rfl⟩
abbrev main_call7_c_3 : Ref sig .tc := ⟨.hbm, 136, rfl⟩
abbrev main_call7_v12 : Ref sig .tc := ⟨.hbm, 137, rfl⟩
abbrev main_call7_v13 : Ref sig .tc := ⟨.hbm, 138, rfl⟩
abbrev main_call7_c_4 : Ref sig .tc := ⟨.hbm, 139, rfl⟩
abbrev main_call7_v14 : Ref sig .tc := ⟨.hbm, 140, rfl⟩
abbrev main_v22 : Ref sig .tc := ⟨.hbm, 141, rfl⟩
abbrev main_v23 : Ref sig .tc := ⟨.hbm, 142, rfl⟩
abbrev main_v24 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5120x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x5000x4 : Shape := ⟨3, ![2, 5000, 4]⟩
abbrev S2x5000 : Shape := ⟨2, ![2, 5000]⟩
abbrev S2x5000x1 : Shape := ⟨3, ![2, 5000, 1]⟩
abbrev S_ : Shape := ⟨0, ![]⟩
abbrev S1 : Shape := ⟨1, ![1]⟩
abbrev S1x1x1 : Shape := ⟨3, ![1, 1, 1]⟩
abbrev S2x5000x2 : Shape := ⟨3, ![2, 5000, 2]⟩
abbrev S2x5000x1x2 : Shape := ⟨4, ![2, 5000, 1, 2]⟩
abbrev S2x1x5000x2 : Shape := ⟨4, ![2, 1, 5000, 2]⟩
abbrev S2x5000x5000x2 : Shape := ⟨4, ![2, 5000, 5000, 2]⟩
abbrev S2x5000x5000x1 : Shape := ⟨4, ![2, 5000, 5000, 1]⟩
abbrev S2x5000x5000 : Shape := ⟨3, ![2, 5000, 5000]⟩
abbrev S2x1x5000 : Shape := ⟨3, ![2, 1, 5000]⟩
abbrev S5000 : Shape := ⟨1, ![5000]⟩
abbrev S1x5000 : Shape := ⟨2, ![1, 5000]⟩
abbrev S2x1 : Shape := ⟨2, ![2, 1]⟩
abbrev S2 : Shape := ⟨1, ![2]⟩
abbrev S2x300 : Shape := ⟨2, ![2, 300]⟩
abbrev S2x300x1 : Shape := ⟨3, ![2, 300, 1]⟩
abbrev S2x300x4 : Shape := ⟨3, ![2, 300, 4]⟩
abbrev S2x300x5 : Shape := ⟨3, ![2, 300, 5]⟩

abbrev nBuf : Space → Nat
  | .hbm => 248
  | .vmem => 0
  | .smem => 0
  | _ => 0

abbrev hbmTy0_0 (i : Nat) : BufTy := match i % 128 with
  | 0 => ⟨S2x5000x4, .f32⟩
  | 1 => ⟨S2x5000, .f32⟩
  | 2 => ⟨S2x5000, .i32⟩
  | 3 => ⟨S2x5000, .f32⟩
  | 4 => ⟨S2x5000, .i32⟩
  | 5 => ⟨S2x5000, .f32⟩
  | 6 => ⟨S2x5000, .i32⟩
  | 7 => ⟨S2x5000x1, .i32⟩
  | 8 => ⟨S_, .i32⟩
  | 9 => ⟨S2x5000x1, .i32⟩
  | 10 => ⟨S2x5000x1, .i1⟩
  | 11 => ⟨S_, .i32⟩
  | 12 => ⟨S2x5000x1, .i32⟩
  | 13 => ⟨S2x5000x1, .i32⟩
  | 14 => ⟨S2x5000x1, .i32⟩
  | 15 => ⟨S1, .i32⟩
  | 16 => ⟨S_, .i32⟩
  | 17 => ⟨S2x5000x1, .i32⟩
  | 18 => ⟨S2x5000x1, .i1⟩
  | 19 => ⟨S1x1x1, .i32⟩
  | 20 => ⟨S2x5000x1, .i32⟩
  | 21 => ⟨S2x5000x1, .i1⟩
  | 22 => ⟨S2x5000x1, .i1⟩
  | 23 => ⟨S_, .i1⟩
  | 24 => ⟨S2x5000, .i1⟩
  | 25 => ⟨S2x5000x4, .f32⟩
  | 26 => ⟨S2x5000x4, .i1⟩
  | 27 => ⟨S_, .f32⟩
  | 28 => ⟨S2x5000x4, .f32⟩
  | 29 => ⟨S2x5000x4, .f32⟩
  | 30 => ⟨S_, .i32⟩
  | 31 => ⟨S2x5000, .i32⟩
  | 32 => ⟨S2x5000, .i1⟩
  | 33 => ⟨S_, .i32⟩
  | 34 => ⟨S2x5000, .i32⟩
  | 35 => ⟨S2x5000, .i32⟩
  | 36 => ⟨S2x5000, .i32⟩
  | 37 => ⟨S2x5000x1, .i32⟩
  | 38 => ⟨S1, .i32⟩
  | 39 => ⟨S_, .i32⟩
  | 40 => ⟨S2x5000x1, .i32⟩
  | 41 => ⟨S2x5000x1, .i1⟩
  | 42 => ⟨S1x1x1, .i32⟩
  | 43 => ⟨S2x5000x1, .i32⟩
  | 44 => ⟨S2x5000x1, .i1⟩
  | 45 => ⟨S2x5000x1, .i1⟩
  | 46 => ⟨S_, .i1⟩
  | 47 => ⟨S2x5000, .i1⟩
  | 48 => ⟨S2x5000, .f32⟩
  | 49 => ⟨S_, .f32⟩
  | 50 => ⟨S2x5000, .f32⟩
  | 51 => ⟨S2x5000, .f32⟩
  | 52 => ⟨S_, .i32⟩
  | 53 => ⟨S2x5000, .i32⟩
  | 54 => ⟨S2x5000, .i1⟩
  | 55 => ⟨S_, .i32⟩
  | 56 => ⟨S2x5000, .i32⟩
  | 57 => ⟨S2x5000, .i32⟩
  | 58 => ⟨S2x5000, .i32⟩
  | 59 => ⟨S2x5000x1, .i32⟩
  | 60 => ⟨S1, .i32⟩
  | 61 => ⟨S_, .i32⟩
  | 62 => ⟨S2x5000x1, .i32⟩
  | 63 => ⟨S2x5000x1, .i1⟩
  | 64 => ⟨S1x1x1, .i32⟩
  | 65 => ⟨S2x5000x1, .i32⟩
  | 66 => ⟨S2x5000x1, .i1⟩
  | 67 => ⟨S2x5000x1, .i1⟩
  | 68 => ⟨S_, .i1⟩
  | 69 => ⟨S2x5000, .i1⟩
  | 70 => ⟨S2x5000, .i32⟩
  | 71 => ⟨S_, .i32⟩
  | 72 => ⟨S2x5000, .i32⟩
  | 73 => ⟨S2x5000, .i32⟩
  | 74 => ⟨S2x5000, .f32⟩
  | 75 => ⟨S_, .f32⟩
  | 76 => ⟨S2x5000, .f32⟩
  | 77 => ⟨S2x5000, .f32⟩
  | 78 => ⟨S2x5000x1, .f32⟩
  | 79 => ⟨S2x5000x4, .f32⟩
  | 80 => ⟨S2x5000x4, .f32⟩
  | 81 => ⟨S2x5000x1, .f32⟩
  | 82 => ⟨S2x5000, .f32⟩
  | 83 => ⟨S2x5000x1, .f32⟩
  | 84 => ⟨S2x5000, .f32⟩
  | 85 => ⟨S2x5000, .f32⟩
  | 86 => ⟨S2x5000x1, .f32⟩
  | 87 => ⟨S2x5000, .f32⟩
  | 88 => ⟨S2x5000x1, .f32⟩
  | 89 => ⟨S2x5000, .f32⟩
  | 90 => ⟨S2x5000, .f32⟩
  | 91 => ⟨S2x5000, .f32⟩
  | 92 => ⟨S2x5000x2, .f32⟩
  | 93 => ⟨S2x5000x1x2, .f32⟩
  | 94 => ⟨S2x5000x2, .f32⟩
  | 95 => ⟨S2x1x5000x2, .f32⟩
  | 96 => ⟨S2x5000x5000x2, .f32⟩
  | 97 => ⟨S2x5000x5000x2, .f32⟩
  | 98 => ⟨S2x5000x5000x2, .f32⟩
  | 99 => ⟨S2x5000x2, .f32⟩
  | 100 => ⟨S2x5000x1x2, .f32⟩
  | 101 => ⟨S2x5000x2, .f32⟩
  | 102 => ⟨S2x1x5000x2, .f32⟩
  | 103 => ⟨S2x5000x5000x2, .f32⟩
  | 104 => ⟨S2x5000x5000x2, .f32⟩
  | 105 => ⟨S2x5000x5000x2, .f32⟩
  | 106 => ⟨S2x5000x5000x2, .f32⟩
  | 107 => ⟨S_, .f32⟩
  | 108 => ⟨S2x5000x5000x2, .f32⟩
  | 109 => ⟨S2x5000x5000x2, .f32⟩
  | 110 => ⟨S2x5000x5000x1, .f32⟩
  | 111 => ⟨S2x5000x5000, .f32⟩
  | 112 => ⟨S2x5000x5000x1, .f32⟩
  | 113 => ⟨S2x5000x5000, .f32⟩
  | 114 => ⟨S2x5000x5000, .f32⟩
  | 115 => ⟨S2x5000x1, .f32⟩
  | 116 => ⟨S2x1x5000, .f32⟩
  | 117 => ⟨S2x5000x5000, .f32⟩
  | 118 => ⟨S2x5000x5000, .f32⟩
  | 119 => ⟨S2x5000x5000, .f32⟩
  | 120 => ⟨S2x5000x5000, .f32⟩
  | 121 => ⟨S_, .f32⟩
  | 122 => ⟨S2x5000x5000, .f32⟩
  | 123 => ⟨S2x5000x5000, .f32⟩
  | 124 => ⟨S2x5000x5000, .f32⟩
  | 125 => ⟨S5000, .i32⟩
  | 126 => ⟨S_, .i1⟩
  | 127 => ⟨S2x5000, .i1⟩
  | _ => ⟨S2x5000x4, .f32⟩

abbrev hbmTy0_1 (i : Nat) : BufTy := match i % 128 with
  | 0 => ⟨S_, .i32⟩
  | 1 => ⟨S_, .i32⟩
  | 2 => ⟨S2x5000x5000, .f32⟩
  | 3 => ⟨S5000, .i32⟩
  | 4 => ⟨S_, .i32⟩
  | 5 => ⟨S_, .i32⟩
  | 6 => ⟨S2x5000, .i1⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S2x1x5000, .f32⟩
  | 34 => ⟨S2x5000, .f32⟩
  | 35 => ⟨S_, .f32⟩
  | 36 => ⟨S2x5000, .f32⟩
  | 37 => ⟨S2x5000, .i1⟩
  | 38 => ⟨S_, .i32⟩
  | 39 => ⟨S5000, .i32⟩
  | 40 => ⟨S5000, .i1⟩
  | 41 => ⟨S1x5000, .i1⟩
  | 42 => ⟨S2x5000, .i1⟩
  | 43 => ⟨S2x5000, .i1⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S2x1, .i1⟩
  | 59 => ⟨S2, .i1⟩
  | 60 => ⟨S2, .i1⟩
  | 61 => ⟨S2x1, .i1⟩
  | 62 => ⟨S2x5000, .i1⟩
  | 63 => ⟨S2x5000, .i1⟩
  | 64 => ⟨S2x5000, .i1⟩
  | 65 => ⟨S_, .i32⟩
  | 66 => ⟨S_, .i32⟩
  | 67 => ⟨S_, .f32⟩
  | 68 => ⟨S_, .f32⟩
  | 69 => ⟨S2x5000, .f32⟩
  | 70 => ⟨S2x5000, .f32⟩
  | 71 => ⟨S2x300, .f32⟩
  | 72 => ⟨S2x300, .i32⟩
  | 73 => ⟨S2x300x1, .i32⟩
  | 74 => ⟨S_, .i32⟩
  | 75 => ⟨S2x300x1, .i32⟩
  | 76 => ⟨S2x300x1, .i1⟩
  | 77 => ⟨S_, .i32⟩
  | 78 => ⟨S2x300x1, .i32⟩
  | 79 => ⟨S2x300x1, .i32⟩
  | 80 => ⟨S2x300x1, .i32⟩
  | 81 => ⟨S1, .i32⟩
  | 82 => ⟨S_, .i32⟩
  | 83 => ⟨S2x300x1, .i32⟩
  | 84 => ⟨S2x300x1, .i1⟩
  | 85 => ⟨S1x1x1, .i32⟩
  | 86 => ⟨S2x300x1, .i32⟩
  | 87 => ⟨S2x300x1, .i1⟩
  | 88 => ⟨S2x300x1, .i1⟩
  | 89 => ⟨S_, .i1⟩
  | 90 => ⟨S2x300, .i1⟩
  | 91 => ⟨S2x300x4, .f32⟩
  | 92 => ⟨S2x300x4, .i1⟩
  | 93 => ⟨S_, .f32⟩
  | 94 => ⟨S2x300x4, .f32⟩
  | 95 => ⟨S2x300x4, .f32⟩
  | 96 => ⟨S_, .i32⟩
  | 97 => ⟨S2x300, .i32⟩
  | 98 => ⟨S2x300, .i1⟩
  | 99 => ⟨S_, .i32⟩
  | 100 => ⟨S2x300, .i32⟩
  | 101 => ⟨S2x300, .i32⟩
  | 102 => ⟨S2x300, .i32⟩
  | 103 => ⟨S2x300x1, .i32⟩
  | 104 => ⟨S1, .i32⟩
  | 105 => ⟨S_, .i32⟩
  | 106 => ⟨S2x300x1, .i32⟩
  | 107 => ⟨S2x300x1, .i1⟩
  | 108 => ⟨S1x1x1, .i32⟩
  | 109 => ⟨S2x300x1, .i32⟩
  | 110 => ⟨S2x300x1, .i1⟩
  | 111 => ⟨S2x300x1, .i1⟩
  | 112 => ⟨S_, .i1⟩
  | 113 => ⟨S2x300, .i1⟩
  | 114 => ⟨S2x300, .i32⟩
  | 115 => ⟨S_, .i32⟩
  | 116 => ⟨S2x300, .i32⟩
  | 117 => ⟨S2x300, .i32⟩
  | 118 => ⟨S2x300x1, .f32⟩
  | 119 => ⟨S2x300x5, .f32⟩
  | _ => ⟨S2x5000x4, .f32⟩

abbrev hbmTy (i : Nat) : BufTy := match i / 128 with
  | 0 => hbmTy0_0 i
  | 1 => hbmTy0_1 i
  | _ => ⟨S2x5000x4, .f32⟩

abbrev bufTy : (tb : Table) → Fin (tcTables nBuf tb) → BufTy
  | .hbm, ⟨i, _⟩ => hbmTy i
  | _, _ => ⟨S2x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v4 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_c_4 : Ref sig .tc := ⟨.hbm, 71, rfl⟩
abbrev main_call3_v14 : Ref sig .tc := ⟨.hbm, 72, rfl⟩
abbrev main_v5 : Ref sig .tc := ⟨.hbm, 73, rfl⟩
abbrev main_v6 : Ref sig .tc := ⟨.hbm, 74, rfl⟩
abbrev main_cst : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_0 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_cst_1 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_c : Ref sig .tc := ⟨.hbm, 126, rfl⟩
abbrev main_v55 : Ref sig .tc := ⟨.hbm, 127, rfl⟩
abbrev main_c_2 : Ref sig .tc := ⟨.hbm, 128, rfl⟩
abbrev main_c_3 : Ref sig .tc := ⟨.hbm, 129, rfl⟩
abbrev main_v56_0 : Ref sig .tc := ⟨.hbm, 130, rfl⟩
abbrev main_v56_1 : Ref sig .tc := ⟨.hbm, 131, rfl⟩
abbrev main_v56_2 : Ref sig .tc := ⟨.hbm, 132, rfl⟩
abbrev main_v56_3 : Ref sig .tc := ⟨.hbm, 133, rfl⟩
abbrev main_v56_4 : Ref sig .tc := ⟨.hbm, 134, rfl⟩
abbrev main_while0c_c_9 : Ref sig .tc := ⟨.hbm, 135, rfl⟩
abbrev main_while0c_v63 : Ref sig .tc := ⟨.hbm, 136, rfl⟩
abbrev main_while0b_c_9 : Ref sig .tc := ⟨.hbm, 137, rfl⟩
abbrev main_while0b_v63 : Ref sig .tc := ⟨.hbm, 138, rfl⟩
abbrev main_while0b_v64 : Ref sig .tc := ⟨.hbm, 139, rfl⟩
abbrev main_while0b_c_10 : Ref sig .tc := ⟨.hbm, 140, rfl⟩
abbrev main_while0b_c_11 : Ref sig .tc := ⟨.hbm, 141, rfl⟩
abbrev main_while0b_v65 : Ref sig .tc := ⟨.hbm, 142, rfl⟩
abbrev main_while0b_c_12 : Ref sig .tc := ⟨.hbm, 143, rfl⟩
abbrev main_while0b_c_13 : Ref sig .tc := ⟨.hbm, 144, rfl⟩
abbrev main_while0b_v66 : Ref sig .tc := ⟨.hbm, 145, rfl⟩
abbrev main_while0b_c_14 : Ref sig .tc := ⟨.hbm, 146, rfl⟩
abbrev main_while0b_v67 : Ref sig .tc := ⟨.hbm, 147, rfl⟩
abbrev main_while0b_c_15 : Ref sig .tc := ⟨.hbm, 148, rfl⟩
abbrev main_while0b_v68 : Ref sig .tc := ⟨.hbm, 149, rfl⟩
abbrev main_while0b_c_16 : Ref sig .tc := ⟨.hbm, 150, rfl⟩
abbrev main_while0b_v69 : Ref sig .tc := ⟨.hbm, 151, rfl⟩
abbrev main_while0b_v70 : Ref sig .tc := ⟨.hbm, 152, rfl⟩
abbrev main_while0b_c_17 : Ref sig .tc := ⟨.hbm, 153, rfl⟩
abbrev main_while0b_c_18 : Ref sig .tc := ⟨.hbm, 154, rfl⟩
abbrev main_while0b_v71 : Ref sig .tc := ⟨.hbm, 155, rfl⟩
abbrev main_while0b_c_19 : Ref sig .tc := ⟨.hbm, 156, rfl⟩
abbrev main_while0b_c_20 : Ref sig .tc := ⟨.hbm, 157, rfl⟩
abbrev main_while0b_v72 : Ref sig .tc := ⟨.hbm, 158, rfl⟩
abbrev main_while0b_c_21 : Ref sig .tc := ⟨.hbm, 159, rfl⟩
abbrev main_while0b_v73 : Ref sig .tc := ⟨.hbm, 160, rfl⟩
abbrev main_while0b_v74 : Ref sig .tc := ⟨.hbm, 161, rfl⟩
abbrev main_while0b_v75 : Ref sig .tc := ⟨.hbm, 162, rfl⟩
abbrev main_while0b_cst_22 : Ref sig .tc := ⟨.hbm, 163, rfl⟩
abbrev main_while0b_v76 : Ref sig .tc := ⟨.hbm, 164, rfl⟩
abbrev main_while0b_v77 : Ref sig .tc := ⟨.hbm, 165, rfl⟩
abbrev main_while0b_v78 : Ref sig .tc := ⟨.hbm, 166, rfl⟩
abbrev main_while0b_v79 : Ref sig .tc := ⟨.hbm, 167, rfl⟩
abbrev main_while0b_v80 : Ref sig .tc := ⟨.hbm, 168, rfl⟩
abbrev main_while0b_v81 : Ref sig .tc := ⟨.hbm, 169, rfl⟩
abbrev main_while0b_v82 : Ref sig .tc := ⟨.hbm, 170, rfl⟩
abbrev main_while0b_v83 : Ref sig .tc := ⟨.hbm, 171, rfl⟩
abbrev main_while0b_v84 : Ref sig .tc := ⟨.hbm, 172, rfl⟩
abbrev main_while0b_c_23 : Ref sig .tc := ⟨.hbm, 173, rfl⟩
abbrev main_while0b_c_24 : Ref sig .tc := ⟨.hbm, 174, rfl⟩
abbrev main_while0b_v85 : Ref sig .tc := ⟨.hbm, 175, rfl⟩
abbrev main_while0b_c_25 : Ref sig .tc := ⟨.hbm, 176, rfl⟩
abbrev main_while0b_c_26 : Ref sig .tc := ⟨.hbm, 177, rfl⟩
abbrev main_while0b_v86 : Ref sig .tc := ⟨.hbm, 178, rfl⟩
abbrev main_while0b_c_27 : Ref sig .tc := ⟨.hbm, 179, rfl⟩
abbrev main_while0b_v87 : Ref sig .tc := ⟨.hbm, 180, rfl⟩
abbrev main_while0b_c_28 : Ref sig .tc := ⟨.hbm, 181, rfl⟩
abbrev main_while0b_v88 : Ref sig .tc := ⟨.hbm, 182, rfl⟩
abbrev main_while0b_c_29 : Ref sig .tc := ⟨.hbm, 183, rfl⟩
abbrev main_while0b_v89 : Ref sig .tc := ⟨.hbm, 184, rfl⟩
abbrev main_while0b_v90 : Ref sig .tc := ⟨.hbm, 185, rfl⟩
abbrev main_while0b_v91 : Ref sig .tc := ⟨.hbm, 186, rfl⟩
abbrev main_while0b_v92 : Ref sig .tc := ⟨.hbm, 187, rfl⟩
abbrev main_while0b_v93 : Ref sig .tc := ⟨.hbm, 188, rfl⟩
abbrev main_while0b_v94 : Ref sig .tc := ⟨.hbm, 189, rfl⟩
abbrev main_while0b_v95 : Ref sig .tc := ⟨.hbm, 190, rfl⟩
abbrev main_while0b_v96 : Ref sig .tc := ⟨.hbm, 191, rfl⟩
abbrev main_while0b_v97 : Ref sig .tc := ⟨.hbm, 192, rfl⟩
abbrev main_while0b_c_30 : Ref sig .tc := ⟨.hbm, 193, rfl⟩
abbrev main_while0b_v98 : Ref sig .tc := ⟨.hbm, 194, rfl⟩
abbrev main_cst_4 : Ref sig .tc := ⟨.hbm, 195, rfl⟩
abbrev main_call4_v0 : Ref sig .tc := ⟨.hbm, 196, rfl⟩
abbrev main_call4_v1 : Ref sig .tc := ⟨.hbm, 197, rfl⟩
abbrev main_v57 : Ref sig .tc := ⟨.hbm, 198, rfl⟩
abbrev main_values : Ref sig .tc := ⟨.hbm, 199, rfl⟩
abbrev main_indices : Ref sig .tc := ⟨.hbm, 200, rfl⟩
abbrev main_v58 : Ref sig .tc := ⟨.hbm, 201, rfl⟩
abbrev main_call5_c : Ref sig .tc := ⟨.hbm, 202, rfl⟩
abbrev main_call5_v0 : Ref sig .tc := ⟨.hbm, 203, rfl⟩
abbrev main_call5_v1 : Ref sig .tc := ⟨.hbm, 204, rfl⟩
abbrev main_call5_c_0 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_call5_c_1 : Ref sig .tc := ⟨.hbm, 209, rfl⟩
abbrev main_call5_c_2 : Ref sig .tc := ⟨.hbm, 210, rfl⟩
abbrev main_call5_v5 : Ref sig .tc := ⟨.hbm, 211, rfl⟩
abbrev main_call5_v6 : Ref sig .tc := ⟨.hbm, 212, rfl⟩
abbrev main_call5_v7 : Ref sig .tc := ⟨.hbm, 213, rfl⟩
abbrev main_call5_v8 : Ref sig .tc := ⟨.hbm, 214, rfl⟩
abbrev main_call5_v9 : Ref sig .tc := ⟨.hbm, 215, rfl⟩
abbrev main_call5_v10 : Ref sig .tc := ⟨.hbm, 216, rfl⟩
abbrev main_call5_c_3 : Ref sig .tc := ⟨.hbm, 217, rfl⟩
abbrev main_call5_v11 : Ref sig .tc := ⟨.hbm, 218, rfl⟩
abbrev main_call5_v12 : Ref sig .tc := ⟨.hbm, 219, rfl⟩
abbrev main_call5_v13 : Ref sig .tc := ⟨.hbm, 220, rfl⟩
abbrev main_call5_cst : Ref sig .tc := ⟨.hbm, 221, rfl⟩
abbrev main_call5_v14 : Ref sig .tc := ⟨.hbm, 222, rfl⟩
abbrev main_v59 : Ref sig .tc := ⟨.hbm, 223, rfl⟩
abbrev main_call6_c : Ref sig .tc := ⟨.hbm, 224, rfl⟩
abbrev main_call6_v0 : Ref sig .tc := ⟨.hbm, 225, rfl⟩
abbrev main_call6_v1 : Ref sig .tc := ⟨.hbm, 226, rfl⟩
abbrev main_call6_c_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_c_1 : Ref sig .tc := ⟨.hbm, 232, rfl⟩
abbrev main_call6_c_2 : Ref sig .tc := ⟨.hbm, 233, rfl⟩
abbrev main_call6_v6 : Ref sig .tc := ⟨.hbm, 234, rfl⟩
abbrev main_call6_v7 : Ref sig .tc := ⟨.hbm, 235, rfl⟩
abbrev main_call6_v8 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_c_3 : Ref sig .tc := ⟨.hbm, 240, rfl⟩
abbrev main_call6_v12 : Ref sig .tc := ⟨.hbm, 241, rfl⟩
abbrev main_call6_v13 : Ref sig .tc := ⟨.hbm, 242, rfl⟩
abbrev main_call6_c_4 : Ref sig .tc := ⟨.hbm, 243, rfl⟩
abbrev main_call6_v14 : Ref sig .tc := ⟨.hbm, 244, rfl⟩
abbrev main_v60 : Ref sig .tc := ⟨.hbm, 245, rfl⟩
abbrev main_v61 : Ref sig .tc := ⟨.hbm, 246, rfl⟩
abbrev main_v62 : Ref sig .tc := ⟨.hbm, 247, rfl⟩

abbrev nD : Nat := 1
abbrev τ : Topo := Topo.v7x

variable {F : FTy → Type} [FloatOps F]

abbrev main_while0_count : Scf.Loop 32 := ⟨0#32, 5000#32, 1#32⟩
-- ==== Proof.Prog.lean ====
/-
  The kernel's body as a program over the chunks' numbers: the printed body runs through its ten chunks one after the
  other, written out; here the chunk `t` and the earlier chunk `p` are variables, and the printed body is shown to be
  this program.
-/
module

public import proofs.«01_k».proof.Proof.Gen.KernelIdeal

@[expose] public section

set_option maxRecDepth 65536

noncomputable section

namespace Cert.KernelIdeal.Nms

open Cert.KernelIdeal Cert.KernelIdeal.Gen
open Idealize.ShloMosaic Idealize.SL.Sem

variable {F : FTy → Type} [FloatOps F]

/-- A chunk's row of values, one per box; -/
abbrev Row (F : FTy → Type) := FVec F S1x512 .f32
/-- its column of values, -/
abbrev Col (F : FTy → Type) := FVec F S512x1 .f32
/-- and a value per pair of boxes, one of each of two chunks. -/
abbrev Blk (F : FTy → Type) := FVec F S512x512 .f32

/-- A column spread over the blocks' columns, -/
abbrev spreadC (v : Col F) : Blk F := broadcastTo S512x512 v broadcasts_S512x1_S512x512
/-- and a row over their rows. -/
abbrev spreadR (v : Row F) : Blk F := broadcastTo S512x512 v broadcasts_S1x512_S512x512

/-- The areas of a chunk's boxes, given as a row, from the four coordinates. -/
abbrev areaR (x1 y1 x2 y2 : Row F) : Row F := mulf (subf x2 x1) (subf y2 y1)
/-- The same, given as a column. -/
abbrev areaC (x1 y1 x2 y2 : Col F) : Col F := mulf (subf x2 x1) (subf y2 y1)

/-- The areas of the pairwise intersections. -/
abbrev inter (px1 py1 px2 py2 : Col F) (tx1 ty1 tx2 ty2 : Row F) : Blk F :=
  mulf (maximumf (subf (minimumf (spreadC px2) (spreadR tx2)) (maximumf (spreadC px1) (spreadR tx1))) (broadcast S512x512 (Scalar.ofBits .f32 0x00000000#32)))
    (maximumf (subf (minimumf (spreadC py2) (spreadR ty2)) (maximumf (spreadC py1) (spreadR ty1))) (broadcast S512x512 (Scalar.ofBits .f32 0x00000000#32)))

/-- Whether two boxes overlap by more than a half, as ones and zeros: the intersection over the union compared. -/
abbrev over (px1 py1 px2 py2 : Col F) (tx1 ty1 tx2 ty2 : Row F) : Blk F :=
  sitofp .f32 (extui 32 (cmpf .ogt
    (divf (inter px1 py1 px2 py2 tx1 ty1 tx2 ty2)
      (addf (subf (addf (spreadC (areaC px1 py1 px2 py2)) (spreadR (areaR tx1 ty1 tx2 ty2))) (inter px1 py1 px2 py2 tx1 ty1 tx2 ty2))
        (broadcast S512x512 (Scalar.ofBits .f32 0x33D6BF95#32))))
    (broadcast S512x512 (Scalar.ofBits .f32 0x3F000000#32))) natLt_1_32)

/-- Where the row's box comes after the column's, as ones and zeros. -/
abbrev upper : Blk F :=
  sitofp .f32 (extui 32 (cmpi .sgt (iota .tc S512x512 32 [1] iota_S512x512_d1_w32) (iota .tc S512x512 32 [0] iota_S512x512_d0_w32)) natLt_1_32)
/-- The identity matrix. -/
abbrev ident : Blk F :=
  sitofp .f32 (extui 32 (cmpi .eq (iota .tc S512x512 32 [1] iota_S512x512_d1_w32) (iota .tc S512x512 32 [0] iota_S512x512_d0_w32)) natLt_1_32)
/-- The row of zeros. -/
abbrev zeroR : Row F := broadcast S1x512 (Scalar.ofBits .f32 0x00000000#32)

/-- A row turned into a column: its product with the identity matrix. -/
abbrev toCol (id : Blk F) (s : Row F) : Col F :=
  matmul dot_S512x512_S1x512_S512x1_1_1_0_0_n_n none id s (constant S512x1 .f32 0x00000000#32)

/-- What the column's boxes that are not suppressed suppress, on top of `cross`. -/
abbrev suppress (cross : Row F) (a : Blk F) (s : Col F) : Row F :=
  maximumf cross (shapeCast S1x512 (multiReduction .maximumf [0] S512
    (mulf a (spreadC (subf (broadcast S512x1 (Scalar.ofBits .f32 0x3F800000#32)) s))) 0xFF800000#32 reduces_S512x512_S512 (.inl rfl) rfl)
    shapeCasts_S512_S1x512)

/-- One round of the loop within a chunk. -/
abbrev round (id adj : Blk F) (cross s : Row F) : Row F := suppress cross adj (toCol id s)

/-- The loop's test: whether two rows differ anywhere. -/
abbrev differ (new s : Row F) : BitVec 1 :=
  Scalar.cmpf .ogt (extractAt ![0, 0, 0] (shapeCast S1x1x1 (multiReduction .maximumf [1, 2] S1
    (shapeCast S1x1x512 (select (cmpf .one new s) (broadcast S1x512 (Scalar.ofBits .f32 0x3F800000#32)) (broadcast S1x512 (Scalar.ofBits .f32 0x00000000#32)))
      shapeCasts_S1x512_S1x1x512) 0xFF800000#32 reduces_S1x1x512_S1 (.inl rfl) rfl) shapeCasts_S1_S1x1x1) inpos_S1x1x1_p0_0_0)
    (Scalar.ofBits (F := F) .f32 0x00000000#32)

theorem inbT (t : Fin 10) (k : Fin 4) : ∀ a, (![0, k.val, 512 * t.val] : Fin 3 → Nat) a + S1x1x512.size a ≤ S1x4x5120.size a := by
  revert t k; decide
theorem inbP (t : Fin 10) (k : Fin 4) : ∀ a, (![0, 512 * t.val, k.val] : Fin 3 → Nat) a + S1x512x1.size a ≤ S1x5120x4.size a := by
  revert t k; decide
theorem inbO (t : Fin 10) : ∀ a, (![0, 0, 512 * t.val] : Fin 3 → Nat) a + S1x1x512.size a ≤ S1x1x5120.size a := by
  revert t; decide
theorem inbS (t : Fin 10) : ∀ a, (![512 * t.val, 0] : Fin 2 → Nat) a + S512x1.size a ≤ S5120x1.size a := by
  revert t; decide

/-- Where chunk `t`'s coordinate `k` lies in the transposed boxes, -/
abbrev rectT (t : Fin 10) (k : Fin 4) : Rect S1x4x5120 := Rect.unit (s := S1x4x5120) ![0, k.val, 512 * t.val] S1x1x512.size (inbT t k)
/-- in the boxes, -/
abbrev rectP (t : Fin 10) (k : Fin 4) : Rect S1x5120x4 := Rect.unit (s := S1x5120x4) ![0, 512 * t.val, k.val] S1x512x1.size (inbP t k)
/-- where the chunk lies in the result -/
abbrev rectO (t : Fin 10) : Rect S1x1x5120 := Rect.unit (s := S1x1x5120) ![0, 0, 512 * t.val] S1x1x512.size (inbO t)
/-- and in the column of what is suppressed so far. -/
abbrev rectS (t : Fin 10) : Rect S5120x1 := Rect.unit (s := S5120x1) ![512 * t.val, 0] S512x1.size (inbS t)

section Body

/-- The programs the body is made of. -/
abbrev BProg (F : FTy → Type) (α : Type) := Prog (TpuEff nD τ sig (Elt F) (Λ₀ F) .tc) α

variable (i : grid0.Coords) (arg1 : Memref sig .tc .vmem S1x5120x4 .f32) (arg2 : Memref sig .tc .vmem S1x4x5120 .f32)
  (arg3 : Memref sig .tc .vmem S1x1x5120 .f32) (arg4 : Memref sig .tc .vmem S5120x1 .f32)

/-- Read coordinate `k` of chunk `t` as a row, -/
abbrev ldT (t : Fin 10) (k : Fin 4) : BProg F (Vec F S1x1x512 .f32) :=
  Prog.lift (.load arg2 (rectT t k).toLoadRect (View.loadsAt_vmem h_S1x1x512))
/-- as a column. -/
abbrev ldP (t : Fin 10) (k : Fin 4) : BProg F (Vec F S1x512x1 .f32) :=
  Prog.lift (.load arg1 (rectP t k).toLoadRect (View.loadsAt_vmem h_S1x512x1))

/-- The loop within chunk `t`, run from no box suppressed. -/
def callW (t : Fin 10) (id adj : Blk F) (cross : Row F) : BProg F (FVec F S1x512 .f32 × BitVec 1) :=
  match t with
  | 0 => Prog.lift (.call (1 : (Λ₀ F).Label) ⟨i, id, adj, cross, cross, 1#1⟩)
  | 1 => Prog.lift (.call (2 : (Λ₀ F).Label) ⟨i, id, adj, cross, cross, 1#1⟩)
  | 2 => Prog.lift (.call (3 : (Λ₀ F).Label) ⟨i, id, adj, cross, cross, 1#1⟩)
  | 3 => Prog.lift (.call (4 : (Λ₀ F).Label) ⟨i, id, adj, cross, cross, 1#1⟩)
  | 4 => Prog.lift (.call (5 : (Λ₀ F).Label) ⟨i, id, adj, cross, cross, 1#1⟩)
  | 5 => Prog.lift (.call (6 : (Λ₀ F).Label) ⟨i, id, adj, cross, cross, 1#1⟩)
  | 6 => Prog.lift (.call (7 : (Λ₀ F).Label) ⟨i, id, adj, cross, cross, 1#1⟩)
  | 7 => Prog.lift (.call (8 : (Λ₀ F).Label) ⟨i, id, adj, cross, cross, 1#1⟩)
  | 8 => Prog.lift (.call (9 : (Λ₀ F).Label) ⟨i, id, adj, cross, cross, 1#1⟩)
  | 9 => Prog.lift (.call (10 : (Λ₀ F).Label) ⟨i, id, adj, cross, cross, 1#1⟩)

/-- Read chunk `p`'s boxes as columns and compare them with the row's. -/
def overP (p : Fin 10) (x1 y1 x2 y2 : Row F) : BProg F (Blk F) := do
  let u1 ← ldP arg1 p 0
  let u2 ← ldP arg1 p 1
  let u3 ← ldP arg1 p 2
  let u4 ← ldP arg1 p 3
  pure (over (shapeCast S512x1 u1 shapeCasts_S1x512x1_S512x1) (shapeCast S512x1 u2 shapeCasts_S1x512x1_S512x1)
    (shapeCast S512x1 u3 shapeCasts_S1x512x1_S512x1) (shapeCast S512x1 u4 shapeCasts_S1x512x1_S512x1) x1 y1 x2 y2)

/-- What the earlier chunks suppress: chunk by chunk. -/
def crossP (x1 y1 x2 y2 : Row F) : List (Fin 10) → Row F → BProg F (Row F)
  | [], cross => pure cross
  | p :: ps, cross => do
    let a ← overP arg1 p x1 y1 x2 y2
    let s ← (Prog.lift (.load arg4 (rectS p).toLoadRect (View.loadsAt_vmem h_S512x1)) : BProg F (Vec F S512x1 .f32))
    crossP x1 y1 x2 y2 ps (suppress cross a s)

/-- One chunk: its boxes, what the earlier chunks suppress of them, the loop within the chunk, and the two stores. -/
def chunk (t : Fin 10) (ps : List (Fin 10)) : BProg F PUnit := do
  let v1 ← ldT arg2 t 0
  let v2 ← ldT arg2 t 1
  let v3 ← ldT arg2 t 2
  let v4 ← ldT arg2 t 3
  let cross ← crossP arg1 arg4 (shapeCast S1x512 v1 shapeCasts_S1x1x512_S1x512) (shapeCast S1x512 v2 shapeCasts_S1x1x512_S1x512)
    (shapeCast S1x512 v3 shapeCasts_S1x1x512_S1x512) (shapeCast S1x512 v4 shapeCasts_S1x1x512_S1x512) ps zeroR
  let a ← overP arg1 t (shapeCast S1x512 v1 shapeCasts_S1x1x512_S1x512) (shapeCast S1x512 v2 shapeCasts_S1x1x512_S1x512)
    (shapeCast S1x512 v3 shapeCasts_S1x1x512_S1x512) (shapeCast S1x512 v4 shapeCasts_S1x1x512_S1x512)
  let r ← callW i t ident (mulf a upper) cross
  let _ ← (Prog.lift (.load arg3 (rectO t).toLoadRect (View.loadsAt_vmem h_S1x1x512)) : BProg F (Vec F S1x1x512 .f32))
  Prog.lift (.store arg3 (rectO t) (shapeCast S1x1x512 r.1 shapeCasts_S1x512_S1x1x512) Finset.univ (View.stores_vmem_bits_univ h_S1x1x512 rfl) (.inl rfl))
  let _ ← (Prog.lift (.load arg4 (rectS t).toLoadRect (View.loadsAt_vmem h_S512x1)) : BProg F (Vec F S512x1 .f32))
  Prog.lift (.store arg4 (rectS t) (shapeCast S512x1 (toCol ident r.1) shapeCasts_S512x1_S512x1) Finset.univ (View.stores_vmem_bits_univ h_S512x1 rfl) (.inl rfl))

/-- The chunks, one after the other, each with those before it. -/
def chunks : List (Fin 10) → List (Fin 10) → BProg F PUnit
  | _, [] => pure ⟨⟩
  | done, t :: ts => do
    chunk i arg1 arg2 arg3 arg4 t done
    chunks (done ++ [t]) ts

/-- The body: all ten chunks. -/
def body : BProg F PUnit := chunks i arg1 arg2 arg3 arg4 [] [0, 1, 2, 3, 4, 5, 6, 7, 8, 9]

set_option maxHeartbeats 4000000 in
/-- The printed body is this program. -/
theorem kernel_eq (h1 : arg1.IsWhole) (h2 : arg2.IsWhole) (h3 : arg3.IsWhole) (h4 : arg4.IsWhole) :
    cc0__nms_suppress_kernel (F := F) i arg1 h1 arg2 h2 arg3 h3 arg4 h4 = body i arg1 arg2 arg3 arg4 := rfl

end Body

end Cert.KernelIdeal.Nms

end
-- ==== Proof.Laws.lean ====
/-
  The kernel's vectors of zeros and ones as vectors of truth values: what each operation of the suppression does to them.
-/
module

public import proofs.«01_k».proof.Proof.Prog
public import Idealize.ShloMosaic.Lib.Pointwise
public import Idealize.ShloMosaic.Lib.WordCmp

@[expose] public section

noncomputable section

namespace Cert.KernelIdeal.Nms

open Cert.KernelIdeal Cert.KernelIdeal.Gen
open Idealize.ShloMosaic Idealize.SL.Sem

variable {F : FTy → Type} [FloatOps F]

/-- A truth value as a number: one or zero. -/
def bit (b : Bool) : F .f32 := if b then Scalar.ofBits .f32 0x3F800000#32 else Scalar.ofBits .f32 0x00000000#32

/-- A row, -/
def bRow (b : Fin 512 → Bool) : Row F := fun i => bit (b (i 1))
/-- a column -/
def bCol (b : Fin 512 → Bool) : Col F := fun i => bit (b (i 0))
/-- and a block of truth values. -/
def bBlk (a : Fin 512 → Fin 512 → Bool) : Blk F := fun i => bit (a (i 0) (i 1))

/-- What the proof uses of the arithmetic: on zeros and ones the operations are the logical ones. -/
class Laws (F : FTy → Type) [FloatOps F] : Prop where
  /-- A bit read as a number. -/
  word (w : BitVec 1) : (FloatOps.sitofp .f32 (BitVec.setWidth 32 w) : F .f32) = bit (decide (w = 1#1))
  /-- The product of two blocks. -/
  mul (a b : Fin 512 → Fin 512 → Bool) : mulf (bBlk a : Blk F) (bBlk b) = bBlk fun i j => a i j && b i j
  /-- What a column suppresses. -/
  suppress (c : Fin 512 → Bool) (a : Fin 512 → Fin 512 → Bool) (s : Fin 512 → Bool) :
    Nms.suppress (bRow c : Row F) (bBlk a) (bCol s) = bRow fun j => c j || decide (∃ i, a i j = true ∧ s i = false)
  /-- A row turned into a column. -/
  toCol (s : Fin 512 → Bool) : Nms.toCol (bBlk fun i j => decide (i = j) : Blk F) (bRow s) = bCol s
  /-- Whether two rows differ. -/
  differ (a b : Fin 512 → Bool) : Nms.differ (bRow a : Row F) (bRow b) = if a = b then 0#1 else 1#1

/-! ## The instance over the extended reals -/

theorem one_eq : (Scalar.ofBits .f32 0x3F800000#32 : Ideal .f32) = 1 := by
  show Ideal.ofBits .f32 0x3F800000#32 = 1
  simp [Ideal.ofBits, Ideal.ieee, -EReal.coe_mul]; norm_num
theorem zero_eq : (Scalar.ofBits .f32 0x00000000#32 : Ideal .f32) = 0 := by
  show Ideal.ofBits .f32 0x00000000#32 = 0
  simp [Ideal.ofBits, Ideal.ieee]
theorem bot_eq : (FloatOps.ofBits .f32 0xFF800000#32 : Ideal .f32) = ⊥ := by
  show Ideal.ofBits .f32 0xFF800000#32 = ⊥
  simp [Ideal.ofBits, Ideal.ieee]

theorem bit_ideal (b : Bool) : (bit b : Ideal .f32) = if b then (1 : EReal) else 0 := by
  unfold bit; rw [one_eq, zero_eq]

theorem word_ideal (w : BitVec 1) : (FloatOps.sitofp .f32 (BitVec.setWidth 32 w) : Ideal .f32) = bit (decide (w = 1#1)) := by
  rw [bit_ideal]
  have h : w = 0#1 ∨ w = 1#1 := by revert w; decide
  show (((BitVec.setWidth 32 w).toInt : ℝ) : EReal) = _
  rcases h with rfl | rfl <;> simp

theorem mul_ideal (a b : Fin 512 → Fin 512 → Bool) : mulf (bBlk a : Blk Ideal) (bBlk b) = bBlk fun i j => a i j && b i j := by
  funext i
  show (bit _ : Ideal .f32) * bit _ = bit _
  simp only [bit_ideal]
  cases a (i 0) (i 1) <;> cases b (i 0) (i 1) <;> simp

/-- The greatest of a family of zeros and ones, started below them, is one exactly when one of them is. -/
theorem fold_max_bits {ι : Type} [Fintype ι] [Nonempty ι] (v : ι → Bool) [Decidable (∃ k, v k = true)] :
    (Finset.univ : Finset ι).fold max (⊥ : EReal) (fun k => if v k then (1 : EReal) else 0) = if (∃ k, v k = true) then (1 : EReal) else 0 := by
  classical
  have h : (Finset.univ : Finset ι).fold max (⊥ : EReal) (fun k => if v k then (1 : EReal) else 0)
      = Finset.univ.sup fun k => if v k then (1 : EReal) else 0 := rfl
  rw [h]
  by_cases e : ∃ k, v k = true
  · rw [if_pos e]
    obtain ⟨k, hk⟩ := e
    refine le_antisymm (Finset.sup_le fun i _ => ?_) ?_
    · split <;> simp
    · have := Finset.le_sup (f := fun k => if v k then (1 : EReal) else 0) (Finset.mem_univ k)
      simpa [hk] using this
  · rw [if_neg e]
    have e' : ∀ k, v k = false := fun k => by simpa using fun h => e ⟨k, h⟩
    simp only [e']
    refine le_antisymm (Finset.sup_le fun i _ => by simp) ?_
    have := Finset.le_sup (f := fun _ : ι => (0 : EReal)) (Finset.mem_univ (Classical.arbitrary ι))
    simpa using this

theorem suppress_ideal (c : Fin 512 → Bool) (a : Fin 512 → Fin 512 → Bool) (s : Fin 512 → Bool) :
    Nms.suppress (bRow c : Row Ideal) (bBlk a) (bCol s) = bRow fun j => c j || decide (∃ i, a i j = true ∧ s i = false) := by
  funext j
  obtain ⟨j1, hj1⟩ : ∃ k : Fin 512, k = j 1 := ⟨_, rfl⟩
  simp only [Nms.suppress, pointwise]
  rw [show j = ix2 (0 : Fin 1) j1 from by rw [hj1]; exact (eq_ix2 j).trans (congrArg (fun z : Fin 1 => (ix2 z (j 1) : S1x512.Idx)) (Subsingleton.elim (α := Fin 1) _ _))]
  clear hj1
  have e : ∀ k : Fin 512, ((bBlk a : Blk Ideal) (ix2 k j1) : EReal) * (1 - (bCol s : Col Ideal) (ix2 k 0)) = if (a k j1 && !s k) then (1 : EReal) else 0 := fun k => by
    show (bit (a k j1) : Ideal .f32) * ((1 : EReal) - (bit (s k) : Ideal .f32)) = _
    rw [bit_ideal, bit_ideal]
    have h11 : (1 : EReal) - 1 = 0 := by rw [← EReal.coe_one, ← EReal.coe_sub, sub_self, EReal.coe_zero]
    cases a k j1 <;> cases s k <;> simp [h11]
  have hf : (Finset.univ : Finset (Fin 512)).fold max (Ideal.ofBits .f32 0xFF800000#32)
      (fun k => ((bBlk a : Blk Ideal) (ix2 k j1) : EReal) * (1 - (bCol s : Col Ideal) (ix2 k 0))) = if (∃ k, (a k j1 && !s k) = true) then (1 : EReal) else 0 := by
    rw [show Ideal.ofBits .f32 0xFF800000#32 = ⊥ from bot_eq]
    simp only [e]
    exact fold_max_bits fun k => a k j1 && !s k
  refine (congrArg (max ((bRow c : Row Ideal) (ix2 (0 : Fin 1) j1) : EReal)) (Eq.trans ?_ hf)).trans ?_
  · rfl
  · show max (bit (c j1) : Ideal .f32) _ = (bit (c j1 || decide (∃ i, a i j1 = true ∧ s i = false)) : Ideal .f32)
    rw [bit_ideal, bit_ideal]
    have e2 : (∃ k, (a k j1 && !s k) = true) ↔ (∃ i, a i j1 = true ∧ s i = false) := by simp
    by_cases h : ∃ i, a i j1 = true ∧ s i = false
    · rw [if_pos (e2.mpr h), decide_eq_true h]; cases c j1 <;> simp
    · rw [if_neg (fun h' => h (e2.mp h')), decide_eq_false h]; cases c j1 <;> simp

theorem toCol_ideal (s : Fin 512 → Bool) : Nms.toCol (bBlk fun i j => decide (i = j) : Blk Ideal) (bRow s) = bCol s := by
  funext j
  obtain ⟨j0, hj0⟩ : ∃ k : Fin 512, k = j 0 := ⟨_, rfl⟩
  simp only [Nms.toCol, pointwise]
  rw [show j = ix2 j0 (0 : Fin 1) from by rw [hj0]; exact (eq_ix2 j).trans (congrArg (fun z : Fin 1 => (ix2 (j 0) z : S512x1.Idx)) (Subsingleton.elim (α := Fin 1) _ _))]
  clear hj0
  have e : ∀ k : Fin 512, ((bBlk (fun i j => decide (i = j)) : Blk Ideal) (ix2 j0 k) : EReal) * (bRow s : Row Ideal) (ix2 0 k)
      = if k = j0 then (bit (s j0) : Ideal .f32) else (0 : EReal) := fun k => by
    show (bit (decide (j0 = k)) : Ideal .f32) * (bit (s k) : Ideal .f32) = _
    rw [bit_ideal (decide _)]
    by_cases h : k = j0
    · subst h; simp
    · rw [if_neg h, if_neg (by simpa using fun h' => h h'.symm)]; exact zero_mul _
  refine (zero_add _).trans ?_
  refine (Finset.sum_congr rfl fun k _ => e k).trans ?_
  rw [Finset.sum_ite_eq' Finset.univ j0]
  simp only [Finset.mem_univ, ↓reduceIte]
  rfl

theorem differ_ideal (a b : Fin 512 → Bool) : Nms.differ (bRow a : Row Ideal) (bRow b) = if a = b then 0#1 else 1#1 := by
  simp only [Nms.differ, pointwise]
  have e : ∀ x : Fin 1 × Fin 512, (if ((bRow a : Row Ideal) (ix2 0 x.2) : EReal) ≠ (bRow b : Row Ideal) (ix2 0 x.2) then (1 : EReal) else 0)
      = if (a x.2 != b x.2) then (1 : EReal) else 0 := fun x => by
    show (if (bit (a x.2) : Ideal .f32) ≠ bit (b x.2) then (1 : EReal) else 0) = _
    rw [bit_ideal, bit_ideal]
    cases a x.2 <;> cases b x.2 <;> simp
  have hf : (Finset.univ : Finset (Fin 1 × Fin 512)).fold max (Ideal.ofBits .f32 0xFF800000#32)
      (fun x => if ((bRow a : Row Ideal) (ix2 0 x.2) : EReal) ≠ (bRow b : Row Ideal) (ix2 0 x.2) then (1 : EReal) else 0)
      = if (∃ x : Fin 1 × Fin 512, (a x.2 != b x.2) = true) then (1 : EReal) else 0 := by
    rw [show Ideal.ofBits .f32 0xFF800000#32 = ⊥ from bot_eq]
    simp only [e]
    exact fold_max_bits fun x : Fin 1 × Fin 512 => a x.2 != b x.2
  refine (congrArg (fun z : EReal => BitVec.ofBool (decide (0 < z))) hf).trans ?_
  by_cases h : a = b
  · subst h; simp
  · rw [if_neg h]
    have : ∃ x : Fin 1 × Fin 512, (a x.2 != b x.2) = true := by
      obtain ⟨k, hk⟩ := Function.ne_iff.mp h
      exact ⟨(0, k), by simpa using hk⟩
    rw [if_pos this]; simp

instance : Laws Ideal where
  word := word_ideal
  mul := mul_ideal
  suppress := suppress_ideal
  toCol := toCol_ideal
  differ := differ_ideal

/-! ## The blocks the kernel makes -/

section Blocks

variable [Laws F]

theorem zeroR_eq : (zeroR : Row F) = bRow fun _ => false := rfl

/-- Whether a pair of boxes overlaps, from their coordinates. -/
def overS (px1 py1 px2 py2 tx1 ty1 tx2 ty2 : F .f32) : BitVec 1 :=
  let i := FloatOps.mulf (FloatOps.maximumf (FloatOps.subf (FloatOps.minimumf px2 tx2) (FloatOps.maximumf px1 tx1)) (Scalar.ofBits .f32 0x00000000#32))
    (FloatOps.maximumf (FloatOps.subf (FloatOps.minimumf py2 ty2) (FloatOps.maximumf py1 ty1)) (Scalar.ofBits .f32 0x00000000#32))
  FloatOps.cmpf .ogt (FloatOps.divf i (FloatOps.addf (FloatOps.subf (FloatOps.addf
      (FloatOps.mulf (FloatOps.subf px2 px1) (FloatOps.subf py2 py1)) (FloatOps.mulf (FloatOps.subf tx2 tx1) (FloatOps.subf ty2 ty1))) i)
    (Scalar.ofBits .f32 0x33D6BF95#32))) (Scalar.ofBits .f32 0x3F000000#32)

/-- The block of overlaps is one of zeros and ones, pair by pair. -/
theorem over_eq (px1 py1 px2 py2 : Col F) (tx1 ty1 tx2 ty2 : Row F) :
    over px1 py1 px2 py2 tx1 ty1 tx2 ty2 = bBlk fun i j => decide (overS (px1 (ix2 i 0)) (py1 (ix2 i 0)) (px2 (ix2 i 0)) (py2 (ix2 i 0))
      (tx1 (ix2 0 j)) (ty1 (ix2 0 j)) (tx2 (ix2 0 j)) (ty2 (ix2 0 j)) = 1#1) := by
  funext i
  refine Eq.trans ?_ (Laws.word (F := F) _)
  pointwise [over, overS]

theorem upper_eq : (upper : Blk F) = bBlk fun i j => decide (i < j) := by
  funext i
  refine (Laws.word (F := F) _).trans ?_
  unfold bBlk
  congr 1
  pointwise
  have h0 : (i 0).val < 512 := (i 0).isLt
  have h1 : (i 1).val < 512 := (i 1).isLt
  rw [decide_eq_decide]
  refine Iff.trans ?_ Fin.lt_def.symm
  rw [WordCmp.cmpi_sgt_ofNat (by omega) (by omega)]
  by_cases h : (i 0).val < (i 1).val <;> simp [h]

theorem ident_eq : (ident : Blk F) = bBlk fun i j => decide (i = j) := by
  funext i
  refine (Laws.word (F := F) _).trans ?_
  unfold bBlk
  congr 1
  pointwise
  have h0 : (i 0).val < 512 := (i 0).isLt
  have h1 : (i 1).val < 512 := (i 1).isLt
  rw [decide_eq_decide]
  refine Iff.trans ?_ Fin.ext_iff.symm
  rw [WordCmp.cmpi_eq_ofNat (by omega) (by omega)]
  by_cases h : (i 0).val = (i 1).val <;> simp [h, eq_comm]

end Blocks

end Cert.KernelIdeal.Nms

end
-- ==== Proof.Math.lean ====
/-
  Greedy suppression over the natural numbers: box `j` is suppressed when some earlier box that is not suppressed
  overlaps it. Facts about it: it is the only solution of the equation within a chunk, rounds of that equation reach it
  one more box at a time, and the one-box-at-a-time loop computes it.
-/
module

public import Idealize.ShloMosaic.Lib.Pointwise

@[expose] public section

namespace Cert.Nms

/-- Box `j` is suppressed: an earlier box that is not suppressed overlaps it (`adj i j`). -/
def supp (adj : ℕ → ℕ → Bool) (j : ℕ) : Bool :=
  decide (∃ i : Fin j, adj i.val j = true ∧ supp adj i.val = false)
termination_by j
decreasing_by all_goals exact Fin.isLt _

/-- The same as an equivalence. -/
theorem supp_iff (adj : ℕ → ℕ → Bool) (j : ℕ) :
    supp adj j = true ↔ ∃ i, i < j ∧ adj i j = true ∧ supp adj i = false := by
  rw [supp, decide_eq_true_iff]
  exact ⟨fun ⟨i, h⟩ => ⟨i.val, i.isLt, h⟩, fun ⟨i, hi, h⟩ => ⟨⟨i, hi⟩, h⟩⟩

/-- It depends on the overlaps of the boxes up to `j` alone. -/
theorem supp_congr {adj adj' : ℕ → ℕ → Bool} (n : ℕ) (h : ∀ i j, i < j → j < n → adj i j = adj' i j) :
    ∀ j, j < n → supp adj j = supp adj' j := by
  intro j
  induction j using Nat.strong_induction_on with
  | _ j ih =>
    intro hj
    rw [Bool.eq_iff_iff, supp_iff, supp_iff]
    constructor
    · rintro ⟨i, hi, ha, hs⟩
      exact ⟨i, hi, by rw [← h i j hi hj]; exact ha, by rw [← ih i hi (hi.trans hj)]; exact hs⟩
    · rintro ⟨i, hi, ha, hs⟩
      exact ⟨i, hi, by rw [h i j hi hj]; exact ha, by rw [ih i hi (hi.trans hj)]; exact hs⟩

variable {n : ℕ}

/-- One round within a chunk: what the earlier chunks suppress (`c`) and what the boxes not suppressed by `s` suppress. -/
def rnd (c : Fin n → Bool) (a : Fin n → Fin n → Bool) (s : Fin n → Bool) : Fin n → Bool :=
  fun j => c j || decide (∃ i, a i j = true ∧ s i = false)

/-- Where two rows agree below `j`, their rounds agree at `j`. -/
theorem rnd_congr {c : Fin n → Bool} {a : Fin n → Fin n → Bool} (hup : ∀ i j, a i j = true → i < j)
    {s s' : Fin n → Bool} (j : Fin n) (h : ∀ i, i < j → s i = s' i) : rnd c a s j = rnd c a s' j := by
  unfold rnd
  congr 1
  rw [decide_eq_decide]
  exact exists_congr fun i => and_congr_right fun ha => by rw [h i (hup i j ha)]

/-- The equation has one solution. -/
theorem rnd_unique {c : Fin n → Bool} {a : Fin n → Fin n → Bool} (hup : ∀ i j, a i j = true → i < j)
    {s s' : Fin n → Bool} (hs : rnd c a s = s) (hs' : rnd c a s' = s') : s = s' := by
  funext j
  induction j using WellFoundedLT.induction with
  | _ j ih => rw [← hs, ← hs']; exact rnd_congr hup j ih

/-- What the loop carries with `k` rounds to go at most: either it has stopped at the solution `S`, or it has the first
    `n + 1 - k` entries right. -/
def Inv (S : Fin n → Bool) (k : ℕ) (s : Fin n → Bool) (go : Bool) : Prop :=
  (go = false ∧ s = S) ∨ (go = true ∧ 1 ≤ k ∧ ∀ j : Fin n, j.val + k < n + 1 → s j = S j)

/-- At the start nothing is known. -/
theorem inv_start (S s : Fin n → Bool) : Inv S (n + 1) s true :=
  .inr ⟨rfl, Nat.succ_pos n, fun j h => absurd h (by omega)⟩

/-- A round keeps the invariant with one round less to go. -/
theorem inv_step {c : Fin n → Bool} {a : Fin n → Fin n → Bool} (hup : ∀ i j, a i j = true → i < j)
    {S : Fin n → Bool} (hS : rnd c a S = S) {k : ℕ} {s : Fin n → Bool} (h : Inv S (k + 1) s true) :
    Inv S k (rnd c a s) (decide (rnd c a s ≠ s)) := by
  obtain ⟨h, -⟩ | ⟨-, -, h⟩ := h
  · exact absurd h (by decide)
  by_cases e : rnd c a s = s
  · exact .inl ⟨by simp [e], e.trans (rnd_unique hup e hS)⟩
  refine .inr ⟨by simp [e], ?_, fun j hj => ?_⟩
  · rcases Nat.eq_zero_or_pos k with rfl | hk
    · have : s = S := funext fun j => h j (by omega)
      exact absurd (this ▸ hS) e
    · exact hk
  · rw [← hS]
    exact rnd_congr hup j fun i hi => h i (by have := Fin.lt_def.mp hi; omega)

/-- The chunk's row of suppressed boxes solves the chunk's equation: the boxes before it are those of the earlier chunks
    and those of the chunk itself. -/
theorem supp_chunk (adj : ℕ → ℕ → Bool) (t : ℕ) (c : Fin n → Bool) (a : Fin n → Fin n → Bool)
    (hc : ∀ j : Fin n, c j = true ↔ ∃ p, p < t ∧ ∃ i : Fin n, adj (n * p + i.val) (n * t + j.val) = true ∧ supp adj (n * p + i.val) = false)
    (ha : ∀ i j : Fin n, a i j = true ↔ adj (n * t + i.val) (n * t + j.val) = true ∧ i < j) :
    rnd c a (fun j => supp adj (n * t + j.val)) = fun j => supp adj (n * t + j.val) := by
  funext j
  rw [Bool.eq_iff_iff, supp_iff]
  unfold rnd
  rw [Bool.or_eq_true, hc, decide_eq_true_iff]
  have hn : 0 < n := j.pos
  constructor
  · rintro (⟨p, hp, i, h⟩ | ⟨i, h, hs⟩)
    · refine ⟨_, ?_, h⟩
      have : n * (p + 1) ≤ n * t := Nat.mul_le_mul_left n hp
      have := i.isLt
      rw [Nat.mul_add] at *; omega
    · exact ⟨_, by have := ((ha i j).mp h).2; have := Fin.lt_def.mp this; omega, ((ha i j).mp h).1, hs⟩
  · rintro ⟨i, hi, h, hs⟩
    by_cases hlt : i < n * t
    · refine .inl ⟨i / n, Nat.div_lt_of_lt_mul hlt, ⟨i % n, Nat.mod_lt i hn⟩, ?_⟩
      simp only [Nat.div_add_mod]
      exact ⟨h, hs⟩
    · have e : i = n * t + (i - n * t) := by omega
      refine .inr ⟨⟨i - n * t, by omega⟩, (ha _ _).mpr ⟨by simp only; rw [← e]; exact h, Fin.lt_def.mpr (by simp only; omega)⟩, by simp only; rw [← e]; exact hs⟩

/-- The one-box-at-a-time loop: after `k` trips, each of which lets box `k` suppress the later ones it overlaps unless
    it is itself suppressed, a box is suppressed when one of the first `k` boxes before it that are not suppressed
    overlaps it. -/
theorem seq_supp (adj : ℕ → ℕ → Bool) (N : ℕ) (s : ℕ → ℕ → Bool) (h0 : ∀ j, j < N → s 0 j = false)
    (hstep : ∀ k j, k < N → j < N → (s (k + 1) j = true ↔ s k j = true ∨ (adj k j = true ∧ k < j ∧ s k k = false))) :
    ∀ k, k ≤ N → ∀ j, j < N → (s k j = true ↔ ∃ i, i < k ∧ i < j ∧ adj i j = true ∧ supp adj i = false) := by
  intro k
  induction k with
  | zero => intro _ j hj; rw [h0 j hj]; simp
  | succ k ih =>
    intro hk j hj
    have ih := ih (by omega)
    have hkk : s k k = false ↔ supp adj k = false := by
      rw [← Bool.not_eq_true, ← Bool.not_eq_true, not_iff_not, ih k (by omega), supp_iff]
      exact exists_congr fun i => ⟨fun h => h.2, fun h => ⟨h.1, h⟩⟩
    rw [hstep k j (by omega) hj, ih j hj, hkk]
    constructor
    · rintro (⟨i, hi, h⟩ | ⟨h1, h2, h3⟩)
      · exact ⟨i, by omega, h⟩
      · exact ⟨k, by omega, h2, h1, h3⟩
    · rintro ⟨i, hi, h2, h1, h3⟩
      rcases Nat.lt_succ_iff_lt_or_eq.mp hi with h | rfl
      · exact .inl ⟨i, h, h2, h1, h3⟩
      · exact .inr ⟨h1, h2, h3⟩

/-- After all the trips it is the greedy suppression. -/
theorem seq_supp_all (adj : ℕ → ℕ → Bool) (N : ℕ) (s : ℕ → ℕ → Bool) (h0 : ∀ j, j < N → s 0 j = false)
    (hstep : ∀ k j, k < N → j < N → (s (k + 1) j = true ↔ s k j = true ∨ (adj k j = true ∧ k < j ∧ s k k = false)))
    (j : ℕ) (hj : j < N) : s N j = supp adj j := by
  rw [Bool.eq_iff_iff, seq_supp adj N s h0 hstep N le_rfl j hj, supp_iff]
  exact exists_congr fun i => ⟨fun h => h.2, fun h => ⟨by omega, h⟩⟩

end Cert.Nms
-- ==== Proof.While.lean ====
/-
  The loop within a chunk: entered with any row, it ends, and with the one row that its round leaves as it is.
-/
module

public import proofs.«01_k».proof.Proof.Laws
public import proofs.«01_k».proof.Proof.Math
public import Idealize.ShloMosaic.Lib.Pipeline.FrameSuffix

@[expose] public section

noncomputable section

namespace Cert.KernelIdeal.Nms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loops' variants: how many rounds are left at most. -/
abbrev 𝒱₀ : Variants := Variants.nat

variable (i : grid0.Coords)

/-- The loop of chunk `t`, entered with the row `s` and the flag `go`. -/
def enter (t : Fin 10) (id adj : Blk F) (cross s : Row F) (go : BitVec 1) : BProg F (FVec F S1x512 .f32 × BitVec 1) :=
  match t with
  | 0 => Prog.lift (.call (1 : (Λ₀ F).Label) ⟨i, id, adj, cross, s, go⟩)
  | 1 => Prog.lift (.call (2 : (Λ₀ F).Label) ⟨i, id, adj, cross, s, go⟩)
  | 2 => Prog.lift (.call (3 : (Λ₀ F).Label) ⟨i, id, adj, cross, s, go⟩)
  | 3 => Prog.lift (.call (4 : (Λ₀ F).Label) ⟨i, id, adj, cross, s, go⟩)
  | 4 => Prog.lift (.call (5 : (Λ₀ F).Label) ⟨i, id, adj, cross, s, go⟩)
  | 5 => Prog.lift (.call (6 : (Λ₀ F).Label) ⟨i, id, adj, cross, s, go⟩)
  | 6 => Prog.lift (.call (7 : (Λ₀ F).Label) ⟨i, id, adj, cross, s, go⟩)
  | 7 => Prog.lift (.call (8 : (Λ₀ F).Label) ⟨i, id, adj, cross, s, go⟩)
  | 8 => Prog.lift (.call (9 : (Λ₀ F).Label) ⟨i, id, adj, cross, s, go⟩)
  | 9 => Prog.lift (.call (10 : (Λ₀ F).Label) ⟨i, id, adj, cross, s, go⟩)

/-- One passage through the loop of chunk `t`: the flag is tested, and then a round is done and the loop entered again. -/
def pass (t : Fin 10) (id adj : Blk F) (cross s : Row F) (go : BitVec 1) : BProg F (FVec F S1x512 .f32 × BitVec 1) :=
  if go = 1#1 then enter i t id adj cross (round id adj cross s) (differ (round id adj cross s) s) else pure (s, go)

theorem callW_eq (t : Fin 10) (id adj : Blk F) (cross : Row F) : callW i t id adj cross = enter i t id adj cross cross 1#1 := by
  match t with
  | 0 | 1 | 2 | 3 | 4 | 5 | 6 | 7 | 8 | 9 => rfl

/-- What a passage meets, the entry meets. -/
theorem wp_enter (c : Dev nD) (bd : Option ℕ) (E : Set ℕ) (v : ℕ) (hv : ∀ u ∈ bd, v < u) (S : sWPT 𝕄 (FVec F S1x512 .f32 × BitVec 1))
    (t : Fin 10) (id adj : Blk F) (cross s : Row F) (go : BitVec 1)
    (h : S ≤ wp frame (wpE (defs₀ (F := F)) 𝒱₀ (c : Thread nD τ) (some v)) E (pass i t id adj cross s go))
    (K : FVec F S1x512 .f32 × BitVec 1 → sProp 𝕄) :
    S K ⊢ wp frame (wpE (defs₀ (F := F)) 𝒱₀ (c : Thread nD τ) bd) E (enter i t id adj cross s go) K := by
  have hk : S K ⊢ S fun x => wp frame (wpE (defs₀ (F := F)) 𝒱₀ (c : Thread nD τ) bd) E (Prog.ret x) K :=
    S.mono fun x => by
      show K x ⊢ _
      iintro H; rw [wp_ret]; imodintro; iexact H
  refine hk.trans ?_
  match t, h with
  | 0, h => refine wp_call_spec (defs := defs₀ (F := F)) (ℓ := (1 : (Λ₀ F).Label)) 𝒱₀ (c : Thread nD τ) bd E S v hv ?_; exact h
  | 1, h => refine wp_call_spec (defs := defs₀ (F := F)) (ℓ := (2 : (Λ₀ F).Label)) 𝒱₀ (c : Thread nD τ) bd E S v hv ?_; exact h
  | 2, h => refine wp_call_spec (defs := defs₀ (F := F)) (ℓ := (3 : (Λ₀ F).Label)) 𝒱₀ (c : Thread nD τ) bd E S v hv ?_; exact h
  | 3, h => refine wp_call_spec (defs := defs₀ (F := F)) (ℓ := (4 : (Λ₀ F).Label)) 𝒱₀ (c : Thread nD τ) bd E S v hv ?_; exact h
  | 4, h => refine wp_call_spec (defs := defs₀ (F := F)) (ℓ := (5 : (Λ₀ F).Label)) 𝒱₀ (c : Thread nD τ) bd E S v hv ?_; exact h
  | 5, h => refine wp_call_spec (defs := defs₀ (F := F)) (ℓ := (6 : (Λ₀ F).Label)) 𝒱₀ (c : Thread nD τ) bd E S v hv ?_; exact h
  | 6, h => refine wp_call_spec (defs := defs₀ (F := F)) (ℓ := (7 : (Λ₀ F).Label)) 𝒱₀ (c : Thread nD τ) bd E S v hv ?_; exact h
  | 7, h => refine wp_call_spec (defs := defs₀ (F := F)) (ℓ := (8 : (Λ₀ F).Label)) 𝒱₀ (c : Thread nD τ) bd E S v hv ?_; exact h
  | 8, h => refine wp_call_spec (defs := defs₀ (F := F)) (ℓ := (9 : (Λ₀ F).Label)) 𝒱₀ (c : Thread nD τ) bd E S v hv ?_; exact h
  | 9, h => refine wp_call_spec (defs := defs₀ (F := F)) (ℓ := (10 : (Λ₀ F).Label)) 𝒱₀ (c : Thread nD τ) bd E S v hv ?_; exact h

/-- A flag as a bit. -/
def flag (b : Bool) : BitVec 1 := if b then 1#1 else 0#1

variable [Laws F]

theorem round_bits (a : Fin 512 → Fin 512 → Bool) (cr s : Fin 512 → Bool) :
    round (ident : Blk F) (bBlk a) (bRow cr) (bRow s) = bRow (Cert.Nms.rnd cr a s) := by
  unfold round
  rw [ident_eq, Laws.toCol, Laws.suppress]
  rfl

theorem differ_bits (a b : Fin 512 → Bool) : differ (bRow a : Row F) (bRow b) = flag (decide (a ≠ b)) := by
  rw [Laws.differ]; unfold flag
  by_cases h : a = b <;> simp [h]

/-- The loop ends with the row `S` that a round leaves as it is: with `n` rounds left at most, from a row that agrees with
    `S` as far as the rounds done have brought it. -/
theorem pass_spec (t : Fin 10) (c : Dev nD) (E : Set ℕ) (a : Fin 512 → Fin 512 → Bool) (cr S : Fin 512 → Bool)
    (hup : ∀ p j, a p j = true → p < j) (hS : Cert.Nms.rnd cr a S = S) :
    ∀ n s go, Cert.Nms.Inv S n s go →
      (pure (bRow S, 0#1) : sWPT 𝕄 (FVec F S1x512 .f32 × BitVec 1))
        ≤ wp frame (wpE (defs₀ (F := F)) 𝒱₀ (c : Thread nD τ) (some n)) E (pass i t ident (bBlk a) (bRow cr) (bRow s) (flag go)) := by
  intro n
  have hend : ∀ n s go, (go = false ∧ s = S) → (pure (bRow S, 0#1) : sWPT 𝕄 (FVec F S1x512 .f32 × BitVec 1))
        ≤ wp frame (wpE (defs₀ (F := F)) 𝒱₀ (c : Thread nD τ) (some n)) E (pass i t ident (bBlk a) (bRow cr) (bRow s) (flag go)) := by
    rintro n s go ⟨rfl, rfl⟩ K
    show K (bRow s, 0#1) ⊢ _
    unfold pass
    rw [show (flag false : BitVec 1) = 0#1 from rfl, if_neg (by decide)]
    iintro H
    simp only [Prog.pure_eq_ret]
    rw [wp_ret]; imodintro
    iexact H
  induction n with
  | zero =>
    intro s go h
    refine hend 0 s go ?_
    rcases h with h | ⟨_, h, _⟩
    · exact h
    · omega
  | succ n ih =>
    intro s go h
    rcases h with h | ⟨rfl, h1, h2⟩
    · exact hend (n + 1) s go h
    · intro K
      unfold pass
      rw [show (flag true : BitVec 1) = 1#1 from rfl, if_pos rfl, round_bits, differ_bits]
      exact wp_enter i c (some (n + 1)) E n (fun u hu => by cases hu; exact Nat.lt_succ_self n) _ t _ _ _ _ _
        (ih _ _ (Cert.Nms.inv_step hup hS (Or.inr ⟨rfl, h1, h2⟩))) K

/-- The call of chunk `t`'s loop gives `S`. -/
theorem wp_callW (t : Fin 10) (c : Dev nD) (E : Set ℕ) (a : Fin 512 → Fin 512 → Bool) (cr S : Fin 512 → Bool)
    (hup : ∀ p j, a p j = true → p < j) (hS : Cert.Nms.rnd cr a S = S) (K : FVec F S1x512 .f32 × BitVec 1 → sProp 𝕄) :
    K (bRow S, 0#1) ⊢ wp frame (wpE (defs₀ (F := F)) 𝒱₀ (c : Thread nD τ) none) E (callW i t ident (bBlk a) (bRow cr)) K := by
  rw [callW_eq]
  exact wp_enter i c none E 513 (fun u hu => nomatch hu) _ t _ _ _ _ _
    (pass_spec i t c E a cr S hup hS 513 cr true (Cert.Nms.inv_start S cr)) K

end Cert.KernelIdeal.Nms

end
-- ==== Proof.Body.lean ====
/-
  One run of the kernel's body: after it the result's block holds, chunk by chunk, which boxes are suppressed.
-/
module

public import proofs.«01_k».proof.Proof.While
public import Idealize.ShloMosaic.Lib.Memref

@[expose] public section

noncomputable section

namespace Cert.KernelIdeal.Nms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Reading and writing a part of a buffer -/

section Parts

variable (c : Dev nD) {s : Shape} (m : Memref sig .tc .vmem s .f32) (r : Rect s)

/-- A load of a part gives the contents there. -/
theorem wp_ld (hl : m.view.LoadsAt r.toLoadRect) (X : s.Idx → Elt F .f32) (K : (r.shape.Idx → Elt F .f32) → sProp 𝕄) :
    iprop(owns (c : Thread nD τ) m fullShare X ∗ (owns (c : Thread nD τ) m fullShare X -∗ K fun x => X (r.emb x)))
      ⊢ wp frame (wpE (defs₀ (F := F)) 𝒱₀ (c : Thread nD τ) none) Set.univ (Prog.lift (.load m r.toLoadRect hl)) K := by
  iintro ⟨H, Hk⟩
  ihave H' := (show (owns (c : Thread nD τ) m fullShare X : sProp 𝕄) ⊢ iprop(∃ g, ⌜m.view.read (Elt F) g = X⌝ ∗ m.view.loc (c : Thread nD τ) ↦[m.view.set]{fullShare} g) from .rfl) $$ H
  icases H' with ⟨%g, %hg, H⟩
  iapply (wp_load_rect 𝒱₀ (c : Thread nD τ) none Set.univ (m := m) (r := r) (View.set_slice_subset m.view r)) $$ H
  iintro H
  rw [wp_ret]; imodintro
  rw [show (m.access r).read (Elt F) g = fun x => X (r.emb x) from by rw [← hg]; rfl]
  iapply Hk
  rw [← hg]
  iapply (owns_intro (c : Thread nD τ) m fullShare g)
  iexact H

/-- A store into a part changes the contents there and leaves the others. -/
theorem wp_st (w : r.shape.Idx → Elt F .f32) (hx : (m.access r).Stores Finset.univ) (hm : Finset.univ = Finset.univ ∨ ∀ a, r.stride a = 1)
    (X : s.Idx → Elt F .f32) (K : PUnit → sProp 𝕄) :
    iprop(owns (c : Thread nD τ) m fullShare X ∗ (owns (c : Thread nD τ) m fullShare (r.overlay X w) -∗ K ⟨⟩))
      ⊢ wp frame (wpE (defs₀ (F := F)) 𝒱₀ (c : Thread nD τ) none) Set.univ (Prog.lift (.store m r w Finset.univ hx hm)) K := by
  iintro ⟨H, Hk⟩
  ihave H' := (show (owns (c : Thread nD τ) m fullShare X : sProp 𝕄) ⊢ iprop(∃ g, ⌜m.view.read (Elt F) g = X⌝ ∗ m.view.loc (c : Thread nD τ) ↦[m.view.set]{fullShare} g) from .rfl) $$ H
  icases H' with ⟨%g, %hg, H⟩
  iapply (wp_store 𝒱₀ (c : Thread nD τ) none Set.univ (m := m) (r := r) (Mk := Finset.univ) (by rw [View.setOn_univ]; exact View.set_slice_subset m.view r)) $$ H
  iintro H
  rw [wp_ret]; imodintro
  iapply Hk
  have hread : m.view.read (Elt F) ((m.access r).write (Elt F) g w Finset.univ) = r.overlay X w := by
    funext y
    by_cases hy : y ∈ r.set
    · rw [← Rect.map_emb_univ, Finset.mem_map] at hy
      obtain ⟨x, -, rfl⟩ := hy
      rw [Rect.overlay_emb]
      exact View.read_slice_write_emb r g w (Finset.mem_univ x)
    · rw [Rect.overlay_of_not_mem r X w hy, ← hg]
      exact View.read_slice_write_of_not_mem r g w Finset.univ (by rw [Rect.map_emb_univ]; exact hy)
  rw [← hread]
  iapply (owns_intro (c : Thread nD τ) m fullShare _)
  iexact H

end Parts

/-! ## The overlaps of two chunks' boxes -/

/-- Chunk `p`'s coordinate `k` as a column, -/
abbrev colP (P : S1x5120x4.Idx → F .f32) (p : Fin 10) (k : Fin 4) : Col F :=
  shapeCast S512x1 (fun x : (rectP p k).shape.Idx => P ((rectP p k).emb x)) shapeCasts_S1x512x1_S512x1
/-- and chunk `t`'s as a row. -/
abbrev rowT (T : S1x4x5120.Idx → F .f32) (t : Fin 10) (k : Fin 4) : Row F :=
  shapeCast S1x512 (fun x : (rectT t k).shape.Idx => T ((rectT t k).emb x)) shapeCasts_S1x1x512_S1x512

/-- Whether box `a` overlaps box `b` by more than a half, from the boxes given twice: by rows and by columns. -/
def adjN (P : S1x5120x4.Idx → F .f32) (T : S1x4x5120.Idx → F .f32) (a b : ℕ) : Bool :=
  if h : a < 5120 ∧ b < 5120 then
    decide (overS (P (ix3 0 ⟨a, h.1⟩ 0)) (P (ix3 0 ⟨a, h.1⟩ 1)) (P (ix3 0 ⟨a, h.1⟩ 2)) (P (ix3 0 ⟨a, h.1⟩ 3))
      (T (ix3 0 0 ⟨b, h.2⟩)) (T (ix3 0 1 ⟨b, h.2⟩)) (T (ix3 0 2 ⟨b, h.2⟩)) (T (ix3 0 3 ⟨b, h.2⟩)) = 1#1)
  else false

theorem colP_at (P : S1x5120x4.Idx → F .f32) (p : Fin 10) (k : Fin 4) (i : Fin 512) (h : 512 * p.val + i.val < 5120) :
    colP P p k (ix2 i 0) = P (ix3 0 ⟨512 * p.val + i.val, h⟩ k) := by
  pointwise [colP]
  refine congrArg P (funext fun a => Fin.ext ?_)
  rw [Rect.emb_apply]
  match a with
  | ⟨0, _⟩ => rfl
  | ⟨1, _⟩ => show 512 * p.val + 1 * i.val = _; rw [Nat.one_mul]; rfl
  | ⟨2, _⟩ => rfl

theorem rowT_at (T : S1x4x5120.Idx → F .f32) (t : Fin 10) (k : Fin 4) (j : Fin 512) (h : 512 * t.val + j.val < 5120) :
    rowT T t k (ix2 0 j) = T (ix3 0 k ⟨512 * t.val + j.val, h⟩) := by
  pointwise [rowT]
  refine congrArg T (funext fun a => Fin.ext ?_)
  rw [Rect.emb_apply]
  match a with
  | ⟨0, _⟩ => rfl
  | ⟨1, _⟩ => rfl
  | ⟨2, _⟩ => show 512 * t.val + 1 * j.val = _; rw [Nat.one_mul]; rfl

section Bits

variable [Laws F]

theorem over_block (P : S1x5120x4.Idx → F .f32) (T : S1x4x5120.Idx → F .f32) (p t : Fin 10) :
    over (colP P p 0) (colP P p 1) (colP P p 2) (colP P p 3) (rowT T t 0) (rowT T t 1) (rowT T t 2) (rowT T t 3)
      = bBlk fun i j => adjN P T (512 * p.val + i.val) (512 * t.val + j.val) := by
  rw [over_eq]
  refine congrArg bBlk (funext fun i => funext fun j => ?_)
  have hi : 512 * p.val + i.val < 5120 := by omega
  have hj : 512 * t.val + j.val < 5120 := by omega
  unfold adjN
  rw [dif_pos ⟨hi, hj⟩]
  simp only [colP_at _ _ _ _ hi, rowT_at _ _ _ _ hj]

end Bits

/-! ## The runs -/

section Runs

variable (i : grid0.Coords) (arg1 : Memref sig .tc .vmem S1x5120x4 .f32) (arg2 : Memref sig .tc .vmem S1x4x5120 .f32)
  (arg3 : Memref sig .tc .vmem S1x1x5120 .f32) (arg4 : Memref sig .tc .vmem S5120x1 .f32) (c : Dev nD)
  (P : S1x5120x4.Idx → F .f32) (T : S1x4x5120.Idx → F .f32)

/-- The comparison of chunk `p`'s boxes with a row's. -/
theorem wp_overP (p : Fin 10) (x1 y1 x2 y2 : Row F) (K : Blk F → sProp 𝕄) :
    iprop(owns (c : Thread nD τ) arg1 fullShare P
        ∗ (owns (c : Thread nD τ) arg1 fullShare P -∗ K (over (colP P p 0) (colP P p 1) (colP P p 2) (colP P p 3) x1 y1 x2 y2)))
      ⊢ wp frame (wpE (defs₀ (F := F)) 𝒱₀ (c : Thread nD τ) none) Set.univ (overP arg1 p x1 y1 x2 y2) K := by
  unfold overP
  iintro ⟨H, Hk⟩
  rw [wp_bind]; iapply (wp_ld c arg1 (rectP p 0)); isplitl [H]; · iexact H
  iintro H
  rw [wp_bind]; iapply (wp_ld c arg1 (rectP p 1)); isplitl [H]; · iexact H
  iintro H
  rw [wp_bind]; iapply (wp_ld c arg1 (rectP p 2)); isplitl [H]; · iexact H
  iintro H
  rw [wp_bind]; iapply (wp_ld c arg1 (rectP p 3)); isplitl [H]; · iexact H
  iintro H
  rw [wp_pure]; imodintro
  iapply Hk; iexact H

/-- What the chunks `ps` suppress of a chunk, on top of `cr`: `A p` says which box overlaps which, `S p` which are suppressed. -/
def crossB (A : Fin 10 → Fin 512 → Fin 512 → Bool) (S : Fin 10 → Fin 512 → Bool) : List (Fin 10) → (Fin 512 → Bool) → Fin 512 → Bool
  | [], cr => cr
  | p :: ps, cr => crossB A S ps (Cert.Nms.rnd cr (A p) (S p))

theorem crossB_iff (A : Fin 10 → Fin 512 → Fin 512 → Bool) (S : Fin 10 → Fin 512 → Bool) (ps : List (Fin 10)) :
    ∀ (cr : Fin 512 → Bool) (j : Fin 512),
      crossB A S ps cr j = true ↔ cr j = true ∨ ∃ p ∈ ps, ∃ i, A p i j = true ∧ S p i = false := by
  induction ps with
  | nil => intro cr j; simp [crossB]
  | cons p ps ih =>
    intro cr j
    rw [crossB, ih]
    simp only [Cert.Nms.rnd, Bool.or_eq_true, decide_eq_true_eq, List.mem_cons, exists_eq_or_imp, or_assoc]

variable [Laws F]

/-- What the chunks `ps` suppress of chunk `t`. -/
theorem wp_crossP (t : Fin 10) (S : Fin 10 → Fin 512 → Bool) (Z : S5120x1.Idx → F .f32) (ps : List (Fin 10)) :
    (∀ p ∈ ps, (fun x => Z ((rectS p).emb x)) = bCol (S p)) → ∀ (cr : Fin 512 → Bool) (K : Row F → sProp 𝕄),
    iprop(owns (c : Thread nD τ) arg1 fullShare P ∗ owns (c : Thread nD τ) arg4 fullShare Z
        ∗ (owns (c : Thread nD τ) arg1 fullShare P -∗ owns (c : Thread nD τ) arg4 fullShare Z
            -∗ K (bRow (crossB (fun p i j => adjN P T (512 * p.val + i.val) (512 * t.val + j.val)) S ps cr))))
      ⊢ wp frame (wpE (defs₀ (F := F)) 𝒱₀ (c : Thread nD τ) none) Set.univ
          (crossP arg1 arg4 (rowT T t 0) (rowT T t 1) (rowT T t 2) (rowT T t 3) ps (bRow cr)) K := by
  induction ps with
  | nil =>
    intro _ cr K
    unfold crossP crossB
    iintro ⟨H1, H4, Hk⟩
    rw [wp_pure]; imodintro
    iapply Hk $$ H1 H4
  | cons p ps ih =>
    intro hZ cr K
    unfold crossP crossB
    iintro ⟨H1, H4, Hk⟩
    rw [wp_bind]; iapply (wp_overP arg1 c P p); isplitl [H1]; · iexact H1
    iintro H1
    rw [wp_bind]; iapply (wp_ld c arg4 (rectS p)); isplitl [H4]; · iexact H4
    iintro H4
    rw [over_block, hZ p List.mem_cons_self]
    erw [Laws.suppress]
    iapply (ih (fun q hq => hZ q (List.mem_cons_of_mem _ hq)) _ K)
    isplitl [H1]; · iexact H1
    isplitl [H4]; · iexact H4
    iexact Hk

/-- Which boxes of chunk `t` are suppressed. -/
def sup (t : Fin 10) (j : Fin 512) : Bool := Cert.Nms.supp (adjN P T) (512 * t.val + j.val)

/-- The buffers once the chunks `done` are done. -/
def Done (done : List (Fin 10)) : sProp 𝕄 :=
  iprop(∃ (Y : S1x1x5120.Idx → F .f32) (Z : S5120x1.Idx → F .f32),
    ⌜(∀ p ∈ done, ∀ x, Y ((rectO p).emb x) = bit (sup P T p (x 2))) ∧ ∀ p ∈ done, (fun x => Z ((rectS p).emb x)) = bCol (sup P T p)⌝
      ∗ owns (c : Thread nD τ) arg1 fullShare P ∗ owns (c : Thread nD τ) arg2 fullShare T
      ∗ owns (c : Thread nD τ) arg3 fullShare Y ∗ owns (c : Thread nD τ) arg4 fullShare Z)

theorem rectO_disj (p t : Fin 10) (h : p ≠ t) (x : (rectO p).shape.Idx) : (rectO p).emb x ∉ (rectO t).set := by
  intro hm
  rw [← Rect.map_emb_univ, Finset.mem_map] at hm
  obtain ⟨y, -, hy⟩ := hm
  have h2 := congrArg Fin.val (congrFun hy 2)
  rw [Rect.emb_apply, Rect.emb_apply] at h2
  have hx : (x 2).val < 512 := (x 2).isLt
  have hy' : (y 2).val < 512 := (y 2).isLt
  have h3 : 512 * t.val + 1 * (y 2).val = 512 * p.val + 1 * (x 2).val := h2
  exact h (Fin.ext (by omega))

theorem rectS_disj (p t : Fin 10) (h : p ≠ t) (x : (rectS p).shape.Idx) : (rectS p).emb x ∉ (rectS t).set := by
  intro hm
  rw [← Rect.map_emb_univ, Finset.mem_map] at hm
  obtain ⟨y, -, hy⟩ := hm
  have h2 := congrArg Fin.val (congrFun hy 0)
  rw [Rect.emb_apply, Rect.emb_apply] at h2
  have hx : (x 0).val < 512 := (x 0).isLt
  have hy' : (y 0).val < 512 := (y 0).isLt
  have h3 : 512 * t.val + 1 * (y 0).val = 512 * p.val + 1 * (x 0).val := h2
  exact h (Fin.ext (by omega))

theorem rowO (s : Fin 512 → Bool) (x : S1x1x512.Idx) :
    (shapeCast S1x1x512 (bRow s : Row F) shapeCasts_S1x512_S1x1x512) x = bit (s (x 2)) := by
  pointwise [bRow]

theorem colS (s : Fin 512 → Bool) : (shapeCast S512x1 (toCol (ident : Blk F) (bRow s)) shapeCasts_S512x1_S512x1 : Col F) = bCol s := by
  rw [ident_eq, Laws.toCol]
  funext x
  pointwise

/-- One chunk, once those before it are done. -/
theorem wp_chunk (t : Fin 10) (done : List (Fin 10)) (hd : ∀ p, p ∈ done ↔ p < t) (K : PUnit → sProp 𝕄) :
    iprop(Done arg1 arg2 arg3 arg4 c P T done ∗ (Done arg1 arg2 arg3 arg4 c P T (done ++ [t]) -∗ K ⟨⟩))
      ⊢ wp frame (wpE (defs₀ (F := F)) 𝒱₀ (c : Thread nD τ) none) Set.univ (chunk i arg1 arg2 arg3 arg4 t done) K := by
  unfold chunk Done
  iintro ⟨⟨%Y, %Z, %hYZ, H1, H2, H3, H4⟩, Hk⟩
  obtain ⟨hY, hZ⟩ := hYZ
  rw [wp_bind]; iapply (wp_ld c arg2 (rectT t 0)); isplitl [H2]; · iexact H2
  iintro H2
  rw [wp_bind]; iapply (wp_ld c arg2 (rectT t 1)); isplitl [H2]; · iexact H2
  iintro H2
  rw [wp_bind]; iapply (wp_ld c arg2 (rectT t 2)); isplitl [H2]; · iexact H2
  iintro H2
  rw [wp_bind]; iapply (wp_ld c arg2 (rectT t 3)); isplitl [H2]; · iexact H2
  iintro H2
  rw [wp_bind, zeroR_eq]
  iapply (wp_crossP arg1 arg4 c P T t (sup P T) Z done hZ (fun _ => false))
  isplitl [H1]; · iexact H1
  isplitl [H4]; · iexact H4
  iintro H1 H4
  rw [wp_bind]; iapply (wp_overP arg1 c P t); isplitl [H1]; · iexact H1
  iintro H1
  rw [wp_bind]
  erw [over_block P T t t]
  rw [upper_eq, Laws.mul]
  have hfix := Cert.Nms.supp_chunk (n := 512) (adjN P T) t.val
    (crossB (fun p i j => adjN P T (512 * p.val + i.val) (512 * t.val + j.val)) (sup P T) done (fun _ => false))
    (fun i j => adjN P T (512 * t.val + i.val) (512 * t.val + j.val) && decide (i < j))
    (by
      intro j
      rw [crossB_iff]
      simp only [Bool.false_eq_true, false_or]
      constructor
      · rintro ⟨p, hp, i, h⟩; exact ⟨p.val, (hd p).1 hp, i, h⟩
      · rintro ⟨p, hp, i, h⟩; exact ⟨⟨p, by omega⟩, (hd _).2 hp, i, h⟩)
    (by intro i j; simp only [Bool.and_eq_true, decide_eq_true_eq])
  iapply (wp_callW i t c Set.univ _ _ (sup P T t) (by
    intro p j h; simp only [Bool.and_eq_true, decide_eq_true_eq] at h; exact h.2) hfix)
  rw [wp_bind]; iapply (wp_ld c arg3 (rectO t)); isplitl [H3]; · iexact H3
  iintro H3
  rw [wp_bind]; iapply (wp_st c arg3 (rectO t)); isplitl [H3]; · iexact H3
  iintro H3
  rw [wp_bind]; iapply (wp_ld c arg4 (rectS t)); isplitl [H4]; · iexact H4
  iintro H4
  iapply (wp_st c arg4 (rectS t)); isplitl [H4]; · iexact H4
  iintro H4
  iapply Hk
  iexists _, _
  isplitr
  swap
  · isplitl [H1]; · iexact H1
    isplitl [H2]; · iexact H2
    isplitl [H3]; · iexact H3
    iexact H4
  ipureintro
  constructor
  · intro p hp x
    by_cases e : p = t
    · subst e
      rw [Rect.overlay_emb]
      exact rowO _ x
    · rw [Rect.overlay_of_not_mem _ _ _ (rectO_disj p t e x)]
      refine hY p ?_ x
      rcases List.mem_append.1 hp with h | h
      · exact h
      · exact absurd (List.mem_singleton.1 h) e
  · intro p hp
    funext x
    by_cases e : p = t
    · subst e
      rw [Rect.overlay_emb]
      exact congrFun (colS _) x
    · rw [Rect.overlay_of_not_mem _ _ _ (rectS_disj p t e x)]
      refine congrFun (hZ p ?_) x
      rcases List.mem_append.1 hp with h | h
      · exact h
      · exact absurd (List.mem_singleton.1 h) e

/-- The chunks are taken in order: each once those before it are done. -/
def InOrder : List (Fin 10) → List (Fin 10) → Prop
  | _, [] => True
  | done, t :: ts => (∀ p, p ∈ done ↔ p < t) ∧ InOrder (done ++ [t]) ts

theorem wp_chunks (todo : List (Fin 10)) : ∀ (done : List (Fin 10)), InOrder done todo → ∀ K : PUnit → sProp 𝕄,
    iprop(Done arg1 arg2 arg3 arg4 c P T done ∗ (Done arg1 arg2 arg3 arg4 c P T (done ++ todo) -∗ K ⟨⟩))
      ⊢ wp frame (wpE (defs₀ (F := F)) 𝒱₀ (c : Thread nD τ) none) Set.univ (chunks i arg1 arg2 arg3 arg4 done todo) K := by
  induction todo with
  | nil =>
    intro done _ K
    unfold chunks
    rw [List.append_nil]
    iintro ⟨H, Hk⟩
    rw [wp_pure]; imodintro
    iapply Hk; iexact H
  | cons t ts ih =>
    intro done h K
    unfold chunks
    iintro ⟨H, Hk⟩
    rw [wp_bind]
    iapply (wp_chunk i arg1 arg2 arg3 arg4 c P T t done h.1)
    isplitl [H]; · iexact H
    iintro H
    iapply (ih (done ++ [t]) h.2 K)
    isplitl [H]; · iexact H
    rw [List.append_assoc, List.singleton_append]
    iexact Hk

theorem inOrder : InOrder [] [0, 1, 2, 3, 4, 5, 6, 7, 8, 9] := by
  simp only [InOrder]; decide

/-- The body: from the boxes, given by rows and by columns, it leaves which boxes are suppressed. -/
theorem wp_body (Y : S1x1x5120.Idx → F .f32) (Z : S5120x1.Idx → F .f32) (K : PUnit → sProp 𝕄) :
    iprop((owns (c : Thread nD τ) arg1 fullShare P ∗ owns (c : Thread nD τ) arg2 fullShare T
          ∗ owns (c : Thread nD τ) arg3 fullShare Y ∗ owns (c : Thread nD τ) arg4 fullShare Z)
        ∗ ((owns (c : Thread nD τ) arg1 fullShare P ∗ owns (c : Thread nD τ) arg2 fullShare T
          ∗ owns (c : Thread nD τ) arg3 fullShare (fun x => bit (Cert.Nms.supp (adjN P T) (x 2).val)) ∗ ∃ Z', owns (c : Thread nD τ) arg4 fullShare Z') -∗ K ⟨⟩))
      ⊢ wp frame (wpE (defs₀ (F := F)) 𝒱₀ (c : Thread nD τ) none) Set.univ (body i arg1 arg2 arg3 arg4) K := by
  unfold body
  iintro ⟨⟨H1, H2, H3, H4⟩, Hk⟩
  iapply (wp_chunks i arg1 arg2 arg3 arg4 c P T _ [] inOrder K)
  isplitr [Hk]
  · unfold Done
    iexists Y, Z
    isplitr
    · ipureintro
      exact ⟨fun p hp => absurd hp List.not_mem_nil, fun p hp => absurd hp List.not_mem_nil⟩
    isplitl [H1]; · iexact H1
    isplitl [H2]; · iexact H2
    isplitl [H3]; · iexact H3
    iexact H4
  · unfold Done
    iintro ⟨%Y', %Z', %h, H1, H2, H3, H4⟩
    have hY : Y' = fun x => bit (Cert.Nms.supp (adjN P T) (x 2).val) := by
      funext x
      have hx : (x 2).val < 5120 := (x 2).isLt
      have ht : (x 2).val / 512 < 10 := by omega
      have he : (rectO ⟨(x 2).val / 512, ht⟩).emb (ix3 0 0 ⟨(x 2).val % 512, Nat.mod_lt _ (by decide)⟩) = x := by
        funext a; apply Fin.ext
        rw [Rect.emb_apply]
        match a with
        | ⟨0, _⟩ => have h0 : (x 0).val < 1 := (x 0).isLt; show 0 + 1 * 0 = (x 0).val; omega
        | ⟨1, _⟩ => have h0 : (x 1).val < 1 := (x 1).isLt; show 0 + 1 * 0 = (x 1).val; omega
        | ⟨2, _⟩ => show 512 * ((x 2).val / 512) + 1 * ((x 2).val % 512) = (x 2).val; omega
      have hm : (⟨(x 2).val / 512, ht⟩ : Fin 10) ∈ ([] ++ [0, 1, 2, 3, 4, 5, 6, 7, 8, 9] : List (Fin 10)) := by
        generalize (⟨(x 2).val / 512, ht⟩ : Fin 10) = t; revert t; decide
      have := h.1 _ hm (ix3 0 0 ⟨(x 2).val % 512, Nat.mod_lt _ (by decide)⟩)
      rw [he] at this
      rw [this]
      unfold sup
      refine congrArg (fun n => bit (Cert.Nms.supp (adjN P T) n)) ?_
      show 512 * ((x 2).val / 512) + (x 2).val % 512 = (x 2).val
      omega
    iapply Hk
    isplitl [H1]; · iexact H1
    isplitl [H2]; · iexact H2
    isplitl [H3]; · rw [← hY]; iexact H3
    iexists Z'; iexact H4

/-- The same of the printed body. -/
theorem wp_kernel (h1 : arg1.IsWhole) (h2 : arg2.IsWhole) (h3 : arg3.IsWhole) (h4 : arg4.IsWhole)
    (Y : S1x1x5120.Idx → F .f32) (Z : S5120x1.Idx → F .f32) (K : PUnit → sProp 𝕄) :
    iprop((owns (c : Thread nD τ) arg1 fullShare P ∗ owns (c : Thread nD τ) arg2 fullShare T
          ∗ owns (c : Thread nD τ) arg3 fullShare Y ∗ owns (c : Thread nD τ) arg4 fullShare Z)
        ∗ ((owns (c : Thread nD τ) arg1 fullShare P ∗ owns (c : Thread nD τ) arg2 fullShare T
          ∗ owns (c : Thread nD τ) arg3 fullShare (fun x => bit (Cert.Nms.supp (adjN P T) (x 2).val)) ∗ ∃ Z', owns (c : Thread nD τ) arg4 fullShare Z') -∗ K ⟨⟩))
      ⊢ wp frame (wpE (defs₀ (F := F)) 𝒱₀ (c : Thread nD τ) none) Set.univ (cc0__nms_suppress_kernel (F := F) i arg1 h1 arg2 h2 arg3 h3 arg4 h4) K := by
  rw [kernel_eq]
  exact wp_body i arg1 arg2 arg3 arg4 c P T Y Z K

end Runs

end Cert.KernelIdeal.Nms

end
-- ==== Proof.Launch.lean ====
/-
  The kernel's run: the host operations before the call, the call at its two points, and the host operations after it.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix

@[expose] public section

noncomputable section

namespace Cert.KernelIdeal.Nms

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose ΦA arrRef FramePost afterTail₀ withArrays)

variable {F : FTy → Type} [FloatOps F] [Laws F]

local notation "𝕄" => MT nD τ sig Unit (Elt F) ℕ (UR sig nD τ) ℕ

/-- The host operations before the call, -/
abbrev pre : List (List (HloOp τ sig (Elt F))) :=
  [hostOps0, hostOps0_1, hostOps0_2, hostOps0_3, hostOps0_4, hostOps0_5, hostOps0_6, hostOps0_7, hostOps0_8]
/-- and those after it. -/
abbrev post : List (List (HloOp τ sig (Elt F))) := [hostOps1, hostOps1_1, hostOps1_2, hostOps1_3, hostOps1_4, hostOps1_5]

variable (m : (ℓ : Loc nD τ sig) → Buf (Elt F) ℓ) (g : Dev nD → PrngReg)

/-- What the buffers hold at the call. -/
def atCall (c : Dev nD) : Valuation τ sig (Elt F) := StableHlo.after pre.flatten fun b => m (c, b)

/-- The boxes by rows as the call's point `t` reads them, -/
def rows (c : Dev nD) (t : Fin (cfg0 (F := F)).N) : S1x5120x4.Idx → F .f32 :=
  (win0_0.blk t).view.read (Elt F) (atCall m c (Proc.devRef .tc (arrRef spec0 0)))
/-- and by columns. -/
def cols (c : Dev nD) (t : Fin (cfg0 (F := F)).N) : S1x4x5120.Idx → F .f32 :=
  (win0_1.blk t).view.read (Elt F) (atCall m c (Proc.devRef .tc (arrRef spec0 1)))

/-- What the call leaves in its buffers at each point. -/
def dats (_ : Fin 1) (c : Dev nD) : Dat τ (Elt F) Unit ℕ (UR sig nD τ) ℕ (cfg0 (F := F)) c where
  A w := atCall m c (Proc.devRef .tc (arrRef spec0 w))
  after w t := match w with
    | ⟨0, _⟩ => rows m c t
    | ⟨1, _⟩ => cols m c t
    | ⟨2, _⟩ => fun x : S1x1x5120.Idx => bit (Cert.Nms.supp (adjN (rows m c t) (cols m c t)) (x 2).val)
  Φ _ := ΦA spec0 c
  q _ := fullShare
  owed _ := 0

theorem before0 (c : Dev nD) (t : Fin (cfg0 (F := F)).N) (d) : (dats m 0 c).before (0 : Fin 3) t d = rows m c t :=
  ((dats m 0 c).before_fetched 0 t (fetch0_0 t) d).trans rfl
theorem before1 (c : Dev nD) (t : Fin (cfg0 (F := F)).N) (d) : (dats m 0 c).before (1 : Fin 3) t d = cols m c t :=
  ((dats m 0 c).before_fetched 1 t (fetch0_1 t) d).trans rfl

set_option maxRecDepth 65536 in
theorem body_at (c : Dev nD) : BodyObligationLoose (dats (F := F) m 0 c) (defs₀ (F := F)) 𝒱₀ () Set.univ := fun t => by
  rw [bigSep_W0, bigSep_W0]
  show iprop(ΦA spec0 c ∗ (dats m 0 c).owesAt () t.castSucc
      ∗ (∃ d, owns (c : Thread nD τ) (st0_0 t) fullShare ((dats m 0 c).before (0 : Fin 3) t d))
      ∗ (∃ d, owns (c : Thread nD τ) (st0_1 t) fullShare ((dats m 0 c).before (1 : Fin 3) t d))
      ∗ (∃ d, owns (c : Thread nD τ) (st0_2 t) fullShare ((dats m 0 c).before (2 : Fin 3) t d)))
    ⊢ wp frame (wpE (defs₀ (F := F)) 𝒱₀ (c : Thread nD τ) none) Set.univ (bodyAt0 t) fun _ =>
      iprop(ΦA spec0 c ∗ (dats m 0 c).owesAt () t.castSucc
        ∗ owns (c : Thread nD τ) (st0_0 t) fullShare (rows m c t) ∗ owns (c : Thread nD τ) (st0_1 t) fullShare (cols m c t)
        ∗ owns (c : Thread nD τ) (st0_2 t) fullShare (fun x : S1x1x5120.Idx => bit (Cert.Nms.supp (adjN (rows m c t) (cols m c t)) (x 2).val)))
  simp only [before0, before1]
  unfold ΦA bodyAt0
  rw [scopedRest0_eq]
  iintro ⟨⟨⟨%f, Hs⟩, Hp⟩, Ho, ⟨%d0, H0⟩, ⟨%d1, H1⟩, ⟨%d2, H2⟩⟩
  iapply (wp_kernel (grid0.coords t) (st0_0 t) (st0_1 t) (st0_2 t) (Memref.whole cc0_scratch0) c (rows m c t) (cols m c t))
  isplitl [H0 H1 H2 Hs]
  · isplitl [H0]; · iexact H0
    isplitl [H1]; · iexact H1
    isplitl [H2]; · iexact H2
    rw [owns_whole]; iexact Hs
  iintro ⟨H0, H1, H2, ⟨%Z, Hs⟩⟩
  isplitl [Hs Hp]
  · isplitl [Hs]
    · iexists Z
      rw [owns_whole]; exact .rfl
    iexact Hp
  isplitl [Ho]; · iexact Ho
  isplitl [H0]; · iexact H0
  isplitl [H1]; · iexact H1
  iexact H2

theorem pre_fresh : (pre (F := F)).Forall fun ops => ops.Forall fun op => op.fresh = ∅ := by
  simp only [pre, List.Forall]; repeat' constructor
theorem post_fresh : (post (F := F)).Forall fun ops => ops.Forall fun op => op.fresh = ∅ := by
  simp only [post, List.Forall]; repeat' constructor

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩
theorem post_sub : (post (F := F)).Forall fun ops => ops.Forall fun op => op.bufs ⊆ StableHlo.tcRefs τ sig :=
  ⟨hostOps1_sub, hostOps1_1_sub, hostOps1_2_sub, hostOps1_3_sub, hostOps1_4_sub, hostOps1_5_sub⟩

theorem post_keep : ∀ ops ∈ post (F := F), ∀ op ∈ ops, ∀ w, Proc.devRef .tc (arrRef spec0 w) ∉ op.writes := by
  intro ops ho
  fin_cases ho <;> intro op hop <;> fin_cases hop <;> intro w <;> fin_cases w <;>
    exact fun h => StableHlo.devRef_ne_of_ne (by decide) (Finset.mem_singleton.mp h)

/-- The run: every buffer ends as the host operations after the call leave it from what the call leaves, and the counters at zero. -/
theorem run : θ_run (defs (F := F)) (onTc (main (F := F))) ⟨m, fun _ => 0, g⟩
    (fun r => FramePost cfgs (dats m) 0 (afterTail₀ cfgs (dats m) 0 (atCall m) post) r ∧ r.2.sem = fun _ => 0) :=
  Pipeline.θ_run_frame_around cfgs (dats m) 0 launch0 defs₀ 𝒱₀ m g main (body_at m)
    (fun c w => by unfold Dat.share; exact ite_self _) (fun c t => rfl) (atCall m) post
    (fun ops ho op h => by
      rw [Pipeline.tailRefs_none spec0 winFacts0.arr_unscoped]
      exact Pipeline.sub_ucRefs op ((List.forall_iff_forall_mem.mp ((List.forall_iff_forall_mem.mp post_sub) ops ho)) op h))
    (fun ops ho op h => (List.forall_iff_forall_mem.mp ((List.forall_iff_forall_mem.mp post_fresh) ops ho)) op h)
    post_keep
    (Pipeline.hmain_around cfgs 0 defs₀ 𝒱₀ m main pre post pre_sub pre_fresh main_chain)
    (fun c w => rfl) (fun c t => rfl) _ (fun _ h => h)

end Cert.KernelIdeal.Nms

end
-- ==== Proof.Host.lean ====
/-
  The host operations that the kernel and the reference share: the sorting before the suppression, and the selection after it.
-/
module

public import proofs.«01_k».proof.Proof.Gen.KernelIdeal.Launch
public import proofs.«01_k».proof.Proof.Gen.ReferenceIdeal.Run
public import Idealize.ShloMosaic.Lib.StableHlo.RunRead

@[expose] public section

noncomputable section

namespace Cert.Nms

open Idealize.ShloMosaic Idealize.ShloMosaic.TcCoe
open Idealize.ShloMosaic.StableHlo

variable {F : FTy → Type} [FloatOps F]

/-- The kernel's operations up to the boxes moved apart by class, -/
abbrev preK : List (HloOp Cert.KernelIdeal.τ Cert.KernelIdeal.sig (Elt F)) :=
  Cert.KernelIdeal.Gen.hostOps0 ++ Cert.KernelIdeal.Gen.hostOps0_1 ++ Cert.KernelIdeal.Gen.hostOps0_2 ++ Cert.KernelIdeal.Gen.hostOps0_3
    ++ Cert.KernelIdeal.Gen.hostOps0_4 ++ Cert.KernelIdeal.Gen.hostOps0_5
/-- and the reference's. -/
abbrev preR : List (HloOp Cert.ReferenceIdeal.τ Cert.ReferenceIdeal.sig (Elt F)) :=
  Cert.ReferenceIdeal.Gen.hostOps0 ++ Cert.ReferenceIdeal.Gen.hostOps0_1 ++ Cert.ReferenceIdeal.Gen.hostOps0_2 ++ Cert.ReferenceIdeal.Gen.hostOps0_3
    ++ Cert.ReferenceIdeal.Gen.hostOps0_4 ++ Cert.ReferenceIdeal.Gen.hostOps0_5

section Sorted

variable (V : Valuation Cert.KernelIdeal.τ Cert.KernelIdeal.sig (Elt F)) (V' : Valuation Cert.ReferenceIdeal.τ Cert.ReferenceIdeal.sig (Elt F))
  (h0 : V' (Proc.devRef .tc Cert.ReferenceIdeal.main_arg0) = V (Proc.devRef .tc Cert.KernelIdeal.main_arg0))
  (h1 : V' (Proc.devRef .tc Cert.ReferenceIdeal.main_arg1) = V (Proc.devRef .tc Cert.KernelIdeal.main_arg1))
  (h2 : V' (Proc.devRef .tc Cert.ReferenceIdeal.main_arg2) = V (Proc.devRef .tc Cert.KernelIdeal.main_arg2))
include h0 h1 h2

set_option maxRecDepth 8192 in
/-- From the same arguments the sorted boxes agree, -/
theorem sorted_boxes : after preR V' (Proc.devRef .tc Cert.ReferenceIdeal.main_v3) = after preK V (Proc.devRef .tc Cert.KernelIdeal.main_v3) := by
  after_reads_simp
  rw [h0, h1]
  rfl

set_option maxRecDepth 8192 in
/-- the sorted scores, -/
theorem sorted_scores : after preR V' (Proc.devRef .tc Cert.ReferenceIdeal.main_v4) = after preK V (Proc.devRef .tc Cert.KernelIdeal.main_v4) := by
  after_reads_simp
  rw [h1]
  rfl

set_option maxRecDepth 8192 in
/-- and the sorted labels. -/
theorem sorted_labels : after preR V' (Proc.devRef .tc Cert.ReferenceIdeal.main_v5) = after preK V (Proc.devRef .tc Cert.KernelIdeal.main_v5) := by
  after_reads_simp
  rw [h1, h2]
  rfl

end Sorted

/-- The kernel's operations from the suppressed scores on, -/
abbrev postK : List (HloOp Cert.KernelIdeal.τ Cert.KernelIdeal.sig (Elt F)) :=
  Cert.KernelIdeal.Gen.hostOps1_2 ++ Cert.KernelIdeal.Gen.hostOps1_3 ++ Cert.KernelIdeal.Gen.hostOps1_4 ++ Cert.KernelIdeal.Gen.hostOps1_5
/-- and the reference's. -/
abbrev postR : List (HloOp Cert.ReferenceIdeal.τ Cert.ReferenceIdeal.sig (Elt F)) :=
  Cert.ReferenceIdeal.Gen.hostOps0_9 ++ Cert.ReferenceIdeal.Gen.hostOps0_10 ++ Cert.ReferenceIdeal.Gen.hostOps0_11 ++ Cert.ReferenceIdeal.Gen.hostOps0_12

section Selected

variable (V : Valuation Cert.KernelIdeal.τ Cert.KernelIdeal.sig (Elt F)) (V' : Valuation Cert.ReferenceIdeal.τ Cert.ReferenceIdeal.sig (Elt F))
  (hs : V' (Proc.devRef .tc Cert.ReferenceIdeal.main_v57) = V (Proc.devRef .tc Cert.KernelIdeal.main_v19))

include hs

set_option maxRecDepth 8192 in
/-- From the same suppressed scores and boxes the detections agree, -/
theorem selected_boxes (hb : V' (Proc.devRef .tc Cert.ReferenceIdeal.main_v3) = V (Proc.devRef .tc Cert.KernelIdeal.main_v3)) :
    after postR V' (Proc.devRef .tc Cert.ReferenceIdeal.main_v62) = after postK V (Proc.devRef .tc Cert.KernelIdeal.main_v24) := by
  after_reads_simp
  refine congrArg₂ (fun (a : (⟨Cert.KernelIdeal.S2x300x4, .f32⟩ : BufTy).Contents (Elt F)) (b : (⟨Cert.KernelIdeal.S2x300x1, .f32⟩ : BufTy).Contents (Elt F)) =>
    concatenate Cert.KernelIdeal.S2x300x5 2 [⟨Cert.KernelIdeal.S2x300x4, a⟩, ⟨Cert.KernelIdeal.S2x300x1, b⟩]
      Cert.KernelIdeal.Gen.concatenates_S2x300x4_S2x300x1_S2x300x5_d2) ?_ ?_
  · after_reads_simp
    rw [hs, hb]
    rfl
  · after_reads_simp
    rw [hs]

set_option maxRecDepth 8192 in
/-- and from the same labels the labels. -/
theorem selected_labels (hl : V' (Proc.devRef .tc Cert.ReferenceIdeal.main_v5) = V (Proc.devRef .tc Cert.KernelIdeal.main_v5)) :
    after postR V' (Proc.devRef .tc Cert.ReferenceIdeal.main_v60) = after postK V (Proc.devRef .tc Cert.KernelIdeal.main_v22) := by
  after_reads_simp
  rw [hs, hl]
  rfl

end Selected

end Cert.Nms

end
-- ==== Proof.KernelValue.lean ====
/-
  What the kernel's run leaves: the suppressed boxes it writes, and the scores its last operations select from.
-/
module

public import proofs.«01_k».proof.Proof.Launch
public import proofs.«01_k».proof.Proof.Host
public import Idealize.ShloMosaic.Lib.Pipeline.ValueKit.Geometry
public import Idealize.ShloMosaic.Lib.StableHlo.RunHlo
public import Idealize.ShloMosaic.Lib.KernelVsHost
public import Idealize.ShloMosaic.Lib.Pointwise
public import Idealize.ShloMosaic.Lib.StableHlo.ReadAt

@[expose] public section

noncomputable section

namespace Cert.KernelIdeal.Nms

open Cert.KernelIdeal Cert.KernelIdeal.Gen
open Idealize.ShloMosaic Idealize.ShloMosaic.TcCoe
open Idealize.SL Idealize.SL.Sem
open Idealize.ShloMosaic.StableHlo
open Idealize.ShloMosaic.Pipeline (Dat arrRef FramePost afterTail₀ withArrays)

variable {F : FTy → Type} [FloatOps F]

/-- A box's coordinate moved by its label's multiple of 801. -/
def movedS (x : F .f32) (l : BitVec 32) : F .f32 :=
  FloatOps.addf x (FloatOps.mulf (FloatOps.sitofp .f32 l) (Scalar.ofBits .f32 0x44484000#32))

section Lines

variable (V : Valuation τ sig (Elt F))

/-- The operations from the boxes moved apart by class to the call. -/
abbrev moveOps : List (HloOp τ sig (Elt F)) := hostOps0_6 ++ hostOps0_7 ++ hostOps0_8

/-- The call's boxes by rows, where the boxes are, -/
theorem rows_at (b : Fin 2) (i : Fin 5120) (hi : i.val < 5000) (k : Fin 4) (X : S2x5000x4.Idx → F .f32) (L : S2x5000.Idx → BitVec 32)
    (hX : V (Proc.devRef .tc main_v3) = X) (hL : V (Proc.devRef .tc main_v5) = L) :
    after moveOps V (Proc.devRef .tc main_v12) (ix3 b i k) = movedS (X (ix3 b ⟨i.val, hi⟩ k)) (L (ix2 b ⟨i.val, hi⟩)) := by
  after_reads_simp
  rw [hX, hL]
  clean_types
  refine (pad_apply_of_inside (s := S2x5000x4) (t := S2x5120x4) ![0, 0, 0] ![0, 120, 0] ![0, 0, 0] _ _ pads_S2x5000x4_S2x5120x4_000_01200_000 h_S_
    (ix3 b i k) (ix3 b ⟨i.val, hi⟩ k) fun a => ?_).trans ?_
  · fin_cases a <;> simp
  · simp -implicitDefEqProofs only [TRef.toBuf, TRef.ofBuf, cast_cast, cast_eq]
    pointwise [movedS]

/-- and by columns. -/
theorem cols_at (b : Fin 2) (i : Fin 5120) (k : Fin 4) :
    after moveOps V (Proc.devRef .tc main_v13) (ix3 b k i) = after moveOps V (Proc.devRef .tc main_v12) (ix3 b i k) := by
  after_reads_simp
  clean_types
  pointwise

theorem scores6 : after moveOps V (Proc.devRef .tc main_v4) = V (Proc.devRef .tc main_v4) := by after_reads_simp
theorem boxes6 : after moveOps V (Proc.devRef .tc main_v3) = V (Proc.devRef .tc main_v3) := by after_reads_simp
theorem labels6 : after moveOps V (Proc.devRef .tc main_v5) = V (Proc.devRef .tc main_v5) := by after_reads_simp

/-- Where the call's row is above a half the score is replaced by minus one. -/
theorem where_at (b : Fin 2) (j : Fin 5000) (S : S2x1x5120.Idx → F .f32) (T : S2x5000.Idx → F .f32) (hS : V (Proc.devRef .tc main_v14) = S)
    (hT : V (Proc.devRef .tc main_v4) = T) :
    after (hostOps1 ++ hostOps1_1) V (Proc.devRef .tc main_v19) (ix2 b j)
      = if FloatOps.cmpf .ogt (S (ix3 b 0 ⟨j.val, by omega⟩)) (Scalar.ofBits .f32 0x3F000000#32) = 1#1 then Scalar.ofBits .f32 0xBF800000#32 else T (ix2 b j) := by
  after_reads_simp
  rw [hS, hT]
  clean_types
  simp only [id_eq]
  pointwise
  rfl
theorem where_boxes : after (hostOps1 ++ hostOps1_1) V (Proc.devRef .tc main_v3) = V (Proc.devRef .tc main_v3) := by after_reads_simp
theorem where_labels : after (hostOps1 ++ hostOps1_1) V (Proc.devRef .tc main_v5) = V (Proc.devRef .tc main_v5) := by after_reads_simp

theorem post_split : after post.flatten V = after Cert.Nms.postK (after (hostOps1 ++ hostOps1_1) V) := by
  rw [← after_append]
  refine congrArg (fun l => after l V) ?_
  simp only [post, Cert.Nms.postK, List.flatten_cons, List.flatten_nil, List.append_nil, List.append_assoc]

theorem pre_split : after pre.flatten V = after moveOps (after Cert.Nms.preK V) := by
  rw [← after_append]
  refine congrArg (fun l => after l V) ?_
  simp only [pre, moveOps, Cert.Nms.preK, List.flatten_cons, List.flatten_nil, List.append_nil, List.append_assoc]

/-- The operations before the call write none of the arguments, -/
theorem pre_arg0 : after moveOps (after Cert.Nms.preK V) (Proc.devRef .tc main_arg0) = V (Proc.devRef .tc main_arg0) := by after_reads_simp
theorem pre_arg1 : after moveOps (after Cert.Nms.preK V) (Proc.devRef .tc main_arg1) = V (Proc.devRef .tc main_arg1) := by after_reads_simp
theorem pre_arg2 : after moveOps (after Cert.Nms.preK V) (Proc.devRef .tc main_arg2) = V (Proc.devRef .tc main_arg2) := by after_reads_simp
/-- and nor do those after it. -/
theorem post_arg0 : after Cert.Nms.postK (after (hostOps1 ++ hostOps1_1) V) (Proc.devRef .tc main_arg0) = V (Proc.devRef .tc main_arg0) := by after_reads_simp
theorem post_arg1 : after Cert.Nms.postK (after (hostOps1 ++ hostOps1_1) V) (Proc.devRef .tc main_arg1) = V (Proc.devRef .tc main_arg1) := by after_reads_simp
theorem post_arg2 : after Cert.Nms.postK (after (hostOps1 ++ hostOps1_1) V) (Proc.devRef .tc main_arg2) = V (Proc.devRef .tc main_arg2) := by after_reads_simp

end Lines

variable [Laws F] (m : (ℓ : Loc nD τ sig) → Buf (Elt F) ℓ) (c : Dev nD)

/-- The sorted boxes, scores and labels. -/
def sorted : Valuation τ sig (Elt F) := after Cert.Nms.preK fun b => m (c, b)

theorem atCall_eq : atCall m c = after moveOps (sorted m c) := pre_split _

theorem index0 : ∀ t : Fin (cfg0 (F := F)).N, win0_0.index t = ![t.val, 0, 0] := (by decide +kernel : ∀ t : Fin grid0.N, win0_0.index t = ![t.val, 0, 0])
theorem index1 : ∀ t : Fin (cfg0 (F := F)).N, win0_1.index t = ![t.val, 0, 0] := (by decide +kernel : ∀ t : Fin grid0.N, win0_1.index t = ![t.val, 0, 0])
theorem index2 : ∀ t : Fin (cfg0 (F := F)).N, win0_2.index t = ![t.val, 0, 0] := (by decide +kernel : ∀ t : Fin grid0.N, win0_2.index t = ![t.val, 0, 0])

/-- The call's block of rows at its point `t` is that of batch `t`, -/
theorem rows_eq (t : Fin 2) (i : Fin 5120) (k : Fin 4) (A : S2x5120x4.Idx → F .f32) (hA : atCall m c (Proc.devRef .tc main_v12) = A) :
    rows m c t (ix3 0 i k) = A (ix3 t i k) := by
  rw [← hA]
  unfold rows
  refine congrArg (atCall m c (Proc.devRef .tc main_v12)) ?_
  have e : win0_0.index t = ![t.val, 0, 0] := index0 (F := F) t
  blk_ext [e]
/-- its block of columns likewise, -/
theorem cols_eq (t : Fin 2) (i : Fin 5120) (k : Fin 4) (A : S2x4x5120.Idx → F .f32) (hA : atCall m c (Proc.devRef .tc main_v13) = A) :
    cols m c t (ix3 0 k i) = A (ix3 t k i) := by
  rw [← hA]
  unfold cols
  refine congrArg (atCall m c (Proc.devRef .tc main_v13)) ?_
  have e : win0_1.index t = ![t.val, 0, 0] := index1 (F := F) t
  blk_ext [e]

/-- and its row of suppressed boxes is written to batch `t`. -/
theorem final_row : (dats m 0 c).arrAt 2 (cfg0 (F := F)).N
    = fun i : S2x1x5120.Idx => bit (Cert.Nms.supp (adjN (rows m c (i 0)) (cols m c (i 0))) (i 2).val) := by
  refine (dats m 0 c).arrAt_eq_of_covers 2 _ (by decide +kernel : win0_2.Covers) fun t hf (y : S1x1x5120.Idx) => ?_
  have e : win0_2.index t = ![t.val, 0, 0] := index2 t
  have e0 : ((win0_2.blk t).view.emb y : S2x1x5120.Idx) 0 = t := Fin.ext (by blk_simp [e])
  have e2 : (((win0_2.blk t).view.emb y : S2x1x5120.Idx) 2).val = (y 2).val := by blk_simp [e]
  show bit (Cert.Nms.supp (adjN (rows m c t) (cols m c t)) (y 2).val) = bit (Cert.Nms.supp (adjN (rows m c (((win0_2.blk t).view.emb y : S2x1x5120.Idx) 0)) (cols m c (((win0_2.blk t).view.emb y : S2x1x5120.Idx) 0))) (((win0_2.blk t).view.emb y : S2x1x5120.Idx) 2).val)
  rw [e0, e2]

/-- What the buffers hold once the call has ended, -/
def afterCall : Valuation τ sig (Elt F) := withArrays spec0 c (atCall m c) fun w => (dats m 0 c).arrAt w (cfg0 (F := F)).N

theorem afterCall_of_ne (b : Ref sig .tc) (hb : ∀ w, arrRef spec0 w ≠ b) : afterCall m c (Proc.devRef .tc b) = atCall m c (Proc.devRef .tc b) :=
  Pipeline.withArrays_of_ne spec0 c _ _ b hb

theorem afterCall_row : afterCall m c (Proc.devRef .tc main_v14)
    = fun i : S2x1x5120.Idx => bit (Cert.Nms.supp (adjN (rows m c (i 0)) (cols m c (i 0))) (i 2).val) :=
  (Pipeline.withArrays_arr spec0 winFacts0.arr_inj c _ _ 2).trans (final_row m c)

/-- and what the last operations select from. -/
def selectFrom : Valuation τ sig (Elt F) := after (hostOps1 ++ hostOps1_1) (afterCall m c)

theorem tail_eq (b : Ref sig .tc) : afterTail₀ cfgs (dats m) 0 (atCall m) post c b = after Cert.Nms.postK (selectFrom m c) (Proc.devRef .tc b) :=
  congrFun (post_split (afterCall m c)) (Proc.devRef .tc b)

/-- The boxes that overlap, of those there are, from the sorted boxes and labels. -/
theorem overlap_eq (b : Fin 2) (i j : ℕ) (h : i < j) (hj : j < 5000) (X : S2x5000x4.Idx → F .f32) (L : S2x5000.Idx → BitVec 32)
    (hX : sorted m c (Proc.devRef .tc main_v3) = X) (hL : sorted m c (Proc.devRef .tc main_v5) = L) :
    adjN (rows m c b) (cols m c b) i j = decide (overS
      (movedS (X (ix3 b ⟨i, by omega⟩ 0)) (L (ix2 b ⟨i, by omega⟩))) (movedS (X (ix3 b ⟨i, by omega⟩ 1)) (L (ix2 b ⟨i, by omega⟩)))
      (movedS (X (ix3 b ⟨i, by omega⟩ 2)) (L (ix2 b ⟨i, by omega⟩))) (movedS (X (ix3 b ⟨i, by omega⟩ 3)) (L (ix2 b ⟨i, by omega⟩)))
      (movedS (X (ix3 b ⟨j, hj⟩ 0)) (L (ix2 b ⟨j, hj⟩))) (movedS (X (ix3 b ⟨j, hj⟩ 1)) (L (ix2 b ⟨j, hj⟩)))
      (movedS (X (ix3 b ⟨j, hj⟩ 2)) (L (ix2 b ⟨j, hj⟩))) (movedS (X (ix3 b ⟨j, hj⟩ 3)) (L (ix2 b ⟨j, hj⟩))) = 1#1) := by
  have hr : ∀ (n : ℕ) (hn : n < 5000) (k : Fin 4), rows m c b (ix3 0 ⟨n, by omega⟩ k) = movedS (X (ix3 b ⟨n, hn⟩ k)) (L (ix2 b ⟨n, hn⟩)) := fun n hn k => by
    rw [rows_eq m c b _ k _ rfl, atCall_eq]
    exact rows_at (sorted m c) b ⟨n, by omega⟩ hn k X L hX hL
  have hc : ∀ (n : ℕ) (hn : n < 5000) (k : Fin 4), cols m c b (ix3 0 k ⟨n, by omega⟩) = movedS (X (ix3 b ⟨n, hn⟩ k)) (L (ix2 b ⟨n, hn⟩)) := fun n hn k => by
    rw [cols_eq m c b _ k _ rfl, atCall_eq]
    exact (cols_at (sorted m c) b ⟨n, by omega⟩ k).trans (rows_at (sorted m c) b ⟨n, by omega⟩ hn k X L hX hL)
  unfold adjN
  rw [dif_pos ⟨by omega, by omega⟩]
  simp only [hr i (by omega), hc j hj]

/-- The scores the last operations select by, -/
theorem from_scores (b : Fin 2) (j : Fin 5000) (T : S2x5000.Idx → F .f32) (hT : sorted m c (Proc.devRef .tc main_v4) = T)
    (Z : S2x5000.Idx → F .f32) (hZ : selectFrom m c (Proc.devRef .tc main_v19) = Z) :
    Z (ix2 b j) = if FloatOps.cmpf .ogt (bit (F := F) (Cert.Nms.supp (adjN (rows m c b) (cols m c b)) j.val)) (Scalar.ofBits .f32 0x3F000000#32) = 1#1
      then Scalar.ofBits .f32 0xBF800000#32 else T (ix2 b j) := by
  rw [← hZ]
  refine where_at (afterCall m c) b j _ T (afterCall_row m c) ?_
  rw [afterCall_of_ne m c _ (by decide), atCall_eq, scores6, hT]

/-- the boxes, -/
theorem from_boxes : selectFrom m c (Proc.devRef .tc main_v3) = sorted m c (Proc.devRef .tc main_v3) := by
  unfold selectFrom
  rw [where_boxes, afterCall_of_ne m c _ (by decide), atCall_eq, boxes6]
/-- and the labels. -/
theorem from_labels : selectFrom m c (Proc.devRef .tc main_v5) = sorted m c (Proc.devRef .tc main_v5) := by
  unfold selectFrom
  rw [where_labels, afterCall_of_ne m c _ (by decide), atCall_eq, labels6]

/-- The arguments end as they began. -/
theorem final_arg0 : after Cert.Nms.postK (selectFrom m c) (Proc.devRef .tc main_arg0) = m (c, Proc.devRef .tc main_arg0) := by
  refine (post_arg0 (afterCall m c)).trans ?_
  rw [afterCall_of_ne m c _ (by decide), atCall_eq]
  exact pre_arg0 _
theorem final_arg1 : after Cert.Nms.postK (selectFrom m c) (Proc.devRef .tc main_arg1) = m (c, Proc.devRef .tc main_arg1) := by
  refine (post_arg1 (afterCall m c)).trans ?_
  rw [afterCall_of_ne m c _ (by decide), atCall_eq]
  exact pre_arg1 _
theorem final_arg2 : after Cert.Nms.postK (selectFrom m c) (Proc.devRef .tc main_arg2) = m (c, Proc.devRef .tc main_arg2) := by
  refine (post_arg2 (afterCall m c)).trans ?_
  rw [afterCall_of_ne m c _ (by decide), atCall_eq]
  exact pre_arg2 _

/-- The kernel's run: its results, its arguments and its counters. -/
theorem run_values (g : Dev nD → PrngReg) : θ_run (defs (F := F)) (onTc (τ := τ) (main (F := F))) ⟨m, fun _ => 0, g⟩
    (fun r => (∀ c : Dev nD, r.2.mem ((c.tc : Thread nD τ).loc main_v24) = after Cert.Nms.postK (selectFrom m c) (Proc.devRef .tc main_v24)
      ∧ r.2.mem ((c.tc : Thread nD τ).loc main_v22) = after Cert.Nms.postK (selectFrom m c) (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_mono (run m g) fun r h => ⟨fun c =>
    ⟨((h.1 c).2 main_v24 (by decide : main_v24 ∈ Pipeline.restRefs sig spec0)).trans (tail_eq m c _), ((h.1 c).2 main_v22 (by decide : main_v22 ∈ Pipeline.restRefs sig spec0)).trans (tail_eq m c _),
      (((h.1 c).2 main_arg0 (by decide : main_arg0 ∈ Pipeline.restRefs sig spec0)).trans (tail_eq m c _)).trans (final_arg0 m c),
      (((h.1 c).2 main_arg1 (by decide : main_arg1 ∈ Pipeline.restRefs sig spec0)).trans (tail_eq m c _)).trans (final_arg1 m c),
      (((h.1 c).2 main_arg2 (by decide : main_arg2 ∈ Pipeline.restRefs sig spec0)).trans (tail_eq m c _)).trans (final_arg2 m c)⟩, h.2⟩

end Cert.KernelIdeal.Nms

end
-- ==== Proof.RefLoop.lean ====
/-
  The reference's loop: one trip at a pair of boxes, and what all of them leave.
-/
module

public import proofs.«01_k».proof.Proof.Gen.ReferenceIdeal.Run
public import proofs.«01_k».proof.Proof.Math
public import Idealize.ShloMosaic.Lib.Pointwise
public import Idealize.ShloMosaic.Lib.DynamicIndex
public import Idealize.ShloMosaic.Lib.WordCmp

@[expose] public section

noncomputable section

namespace Cert.ReferenceIdeal.Nms

open Cert.ReferenceIdeal Cert.ReferenceIdeal.Gen Cert.ReferenceIdeal.Value
open Idealize.ShloMosaic Idealize.ShloMosaic.TcCoe
open Idealize.ShloMosaic.StableHlo

variable {F : FTy → Type} [FloatOps F]

/-- A row number as an index into 5000 rows. -/
def wrap (K : S_.Idx → BitVec 32) : S_.Idx → BitVec 32 :=
  select (cmpi .slt K (constantI S_ 32 0#32)) (addi K (constantI S_ 32 5000#32)) K

theorem wrap_eq (k : ℕ) (hk : k < 5000) : wrap (fun _ => BitVec.ofNat 32 k) = fun _ => BitVec.ofNat 32 k := by
  funext i
  pointwise [wrap]
  have h : ¬ IntOp.cmpi .slt (BitVec.ofNat 32 k) 0#32 = 1#1 := by
    rw [show (0#32 : BitVec 32) = BitVec.ofNat 32 0 from rfl, WordCmp.cmpi_slt_ofNat (by omega) (by omega)]
    simp
  unfold Scalar.select
  exact if_neg h

/-- One trip: the row `K` of the ratios `X` suppresses among the boxes numbered `I` what comes after it, if it is not suppressed itself. -/
def trip (X : S2x5000x5000.Idx → F .f32) (I : S5000.Idx → BitVec 32) (K : S_.Idx → BitVec 32) (S : S2x5000.Idx → BitVec 1) : S2x5000.Idx → BitVec 1 :=
  ori S (andi (andi (cmpf .ogt (shapeCast S2x5000 (Host.dynamicSlice S2x1x5000 X (fun k => (((![
      select (cmpi .slt (constantI S_ 32 0#32) (constantI S_ 32 0#32)) (addi (constantI S_ 32 0#32) (constantI S_ 32 2#32)) (constantI S_ 32 0#32),
      wrap K,
      select (cmpi .slt (constantI S_ 32 0#32) (constantI S_ 32 0#32)) (addi (constantI S_ 32 0#32) (constantI S_ 32 5000#32)) (constantI S_ 32 0#32)] :
        Fin 3 → S_.Idx → BitVec 32)) k (Shape.Idx.first h_S_)).toInt) sliceFits_S2x5000x5000_S2x1x5000) shapeCasts_S2x1x5000_S2x5000)
      (broadcastInDim S2x5000 ![] bcast_S_S2x5000 (constant S_ .f32 0x3F000000#32)))
    (broadcastInDim S2x5000 ![0, 1] bcast_S1x5000_S2x5000_0_1 (broadcastInDim S1x5000 ![1] bcast_S5000_S1x5000_1
      (cmpi .sgt I (broadcastInDim S5000 ![] bcast_S_S5000 K)))))
    (broadcastInDim S2x5000 ![0, 1] bcast_S2x1_S2x5000_0_1 (broadcastInDim S2x1 ![0] bcast_S2_S2x1_0 (noti (shapeCast S2 (Host.dynamicSlice S2x1 S (fun k => (((![
      select (cmpi .slt (constantI S_ 32 0#32) (constantI S_ 32 0#32)) (addi (constantI S_ 32 0#32) (constantI S_ 32 2#32)) (constantI S_ 32 0#32),
      wrap K] : Fin 2 → S_.Idx → BitVec 32)) k (Shape.Idx.first h_S_)).toInt) sliceFits_S2x5000_S2x1) shapeCasts_S2x1_S2)))))

theorem step_trip (V : Valuation τ sig (Elt F)) : step_main_v56_4 V
    = trip (V (Proc.devRef .tc main_v56_0)) (V (Proc.devRef .tc main_v56_1)) (V (Proc.devRef .tc main_v56_3)) (V (Proc.devRef .tc main_v56_4)) := rfl

theorem trip_at (X : S2x5000x5000.Idx → F .f32) (k : ℕ) (hk : k < 5000) (S : S2x5000.Idx → BitVec 1) (b : Fin 2) (j : Fin 5000) :
    trip X (iotaInDim S5000 32 0) (fun _ => BitVec.ofNat 32 k) S (ix2 b j)
      = IntOp.ori (S (ix2 b j)) (IntOp.andi (IntOp.andi (FloatOps.cmpf .ogt (X (ix3 b ⟨k, hk⟩ j)) (Scalar.ofBits .f32 0x3F000000#32))
          (IntOp.cmpi .sgt (BitVec.ofNat 32 j.val) (BitVec.ofNat 32 k))) (~~~ S (ix2 b ⟨k, hk⟩))) := by
  unfold trip
  rw [wrap_eq k hk]
  have ht : (BitVec.ofNat 32 k).toInt = (k : ℤ) := by
    rw [BitVec.toInt_eq_toNat_cond, BitVec.toNat_ofNat, Nat.mod_eq_of_lt (by omega), if_pos (by omega)]
  rw [Host.dynamicSlice_eq_extractStridedSlice S2x1x5000 X _ ![0, k, 0] _ ⟨rfl, fun a => by fin_cases a <;> simp [S2x5000x5000, S2x1x5000] <;> omega⟩
      (fun a => by fin_cases a <;> first | rfl | exact ht),
    Host.dynamicSlice_eq_extractStridedSlice S2x1 S _ ![0, k] _ ⟨rfl, fun a => by fin_cases a <;> simp [S2x5000, S2x1] <;> omega⟩
      (fun a => by fin_cases a <;> first | rfl | exact ht)]
  pointwise

/-- Whether the ratio of boxes `i` and `j` of image `b` is above a half. -/
def adjR (X : S2x5000x5000.Idx → F .f32) (b : Fin 2) (i j : ℕ) : Bool :=
  if h : i < 5000 ∧ j < 5000 then decide (FloatOps.cmpf .ogt (X (ix3 b ⟨i, h.1⟩ ⟨j, h.2⟩)) (Scalar.ofBits .f32 0x3F000000#32) = 1#1) else false

theorem bits_iff (s a g t : BitVec 1) :
    IntOp.ori s (IntOp.andi (IntOp.andi a g) (~~~ t)) = 1#1 ↔ s = 1#1 ∨ (a = 1#1 ∧ g = 1#1 ∧ ¬ t = 1#1) := by
  revert s a g t; decide

/-- The mark of box `j` of image `b` after `k` trips from `E`. -/
def mark (E : Valuation τ sig (Elt F)) (k : ℕ) (b : Fin 2) (j : Fin 5000) : BitVec 1 := (STEP^[k] E) (Proc.devRef .tc main_v56_4) (ix2 b j)

section Loop

variable (E : Valuation τ sig (Elt F))
  (hI : E (Proc.devRef .tc main_v56_1) = iotaInDim S5000 32 0)
  (hK : E (Proc.devRef .tc main_v56_3) = fun _ => (0#32 : BitVec 32))
  (hS : E (Proc.devRef .tc main_v56_4) = fun _ => (0#1 : BitVec 1))

/-- The trips leave the ratios alone, -/
theorem iter_ratio (k : ℕ) : (STEP^[k] E) (Proc.devRef .tc main_v56_0) = E (Proc.devRef .tc main_v56_0) := by
  induction k with
  | zero => rfl
  | succ k ih => rw [Function.iterate_succ_apply', STEP_main_v56_0, ih]

/-- and the numbering, -/
theorem iter_iota (k : ℕ) : (STEP^[k] E) (Proc.devRef .tc main_v56_1) = E (Proc.devRef .tc main_v56_1) := by
  induction k with
  | zero => rfl
  | succ k ih => rw [Function.iterate_succ_apply', STEP_main_v56_1, ih]

include hK in
/-- and count themselves. -/
theorem iter_count (k : ℕ) : (STEP^[k] E) (Proc.devRef .tc main_v56_3) = fun _ => BitVec.ofNat 32 k := by
  induction k with
  | zero => exact hK
  | succ k ih =>
    rw [Function.iterate_succ_apply', STEP_main_v56_3]
    unfold step_main_v56_3
    rw [ih]
    funext i
    exact (BitVec.ofNat_add k 1).symm

include hI hK hS in
/-- After all trips a box is marked exactly where it is suppressed. -/
theorem loop_at (b : Fin 2) (j : Fin 5000) :
    mark E 5000 b j = 1#1
      ↔ Cert.Nms.supp (adjR (F := F) (E (Proc.devRef .tc main_v56_0)) b) j.val = true := by
  let s : ℕ → ℕ → Bool := fun k j => if h : j < 5000 then decide (mark E k b ⟨j, h⟩ = 1#1) else false
  have key := Cert.Nms.seq_supp_all (adjR (F := F) (E (Proc.devRef .tc main_v56_0)) b) 5000 s ?_ ?_ j.val j.isLt
  · rw [← key]
    simp only [s, dif_pos j.isLt, decide_eq_true_eq]
  · intro j hj
    simp only [s, dif_pos hj]
    unfold mark
    rw [Function.iterate_zero, id, hS]
    rfl
  · intro k j hk hj
    simp only [s, dif_pos hj, dif_pos hk, adjR, dif_pos (And.intro hk hj), decide_eq_true_eq, decide_eq_false_iff_not]
    unfold mark
    rw [Function.iterate_succ_apply', STEP_main_v56_4, step_trip, iter_ratio, iter_iota, hI, iter_count E hK]
    refine (iff_of_eq (congrArg (· = 1#1) (trip_at _ k hk _ b ⟨j, hj⟩))).trans ?_
    rw [bits_iff, WordCmp.cmpi_sgt_ofNat (by omega) (by omega)]
    have hg : BitVec.ofBool (decide (k < j)) = 1#1 ↔ k < j := by by_cases h : k < j <;> simp [h]
    exact or_congr Iff.rfl (and_congr Iff.rfl (and_congr hg Iff.rfl))

end Loop

end Cert.ReferenceIdeal.Nms

end
-- ==== Proof.RefRatio.lean ====
/-
  The reference's ratios of overlap, from the boxes moved apart by class, and what its loop starts from.
-/
module

public import proofs.«01_k».proof.Proof.Gen.ReferenceIdeal.Run
public import Idealize.ShloMosaic.Lib.Pointwise
public import Idealize.ShloMosaic.Lib.StableHlo.ReadAt

@[expose] public section

noncomputable section

namespace Cert.ReferenceIdeal.Nms

open Cert.ReferenceIdeal Cert.ReferenceIdeal.Gen Cert.ReferenceIdeal.Value
open Idealize.ShloMosaic Idealize.ShloMosaic.TcCoe
open Idealize.ShloMosaic.StableHlo

variable {F : FTy → Type} [FloatOps F]

/-- The operations that move the boxes apart, -/
abbrev moveOps : List (HloOp τ sig (Elt F)) := hostOps0_6.take 7
/-- and those that take the ratios and set the loop up. -/
abbrev ratioOps : List (HloOp τ sig (Elt F)) := hostOps0_6.drop 7

/-- The ratio of the overlap of two boxes to their union, from their corners. -/
def ratioS (px1 py1 px2 py2 tx1 ty1 tx2 ty2 : F .f32) : F .f32 :=
  let i := FloatOps.mulf (FloatOps.maximumf (FloatOps.subf (FloatOps.minimumf px2 tx2) (FloatOps.maximumf px1 tx1)) (Scalar.ofBits .f32 0x00000000#32))
    (FloatOps.maximumf (FloatOps.subf (FloatOps.minimumf py2 ty2) (FloatOps.maximumf py1 ty1)) (Scalar.ofBits .f32 0x00000000#32))
  FloatOps.hostDivf i (FloatOps.addf (FloatOps.subf (FloatOps.addf
      (FloatOps.mulf (FloatOps.subf px2 px1) (FloatOps.subf py2 py1)) (FloatOps.mulf (FloatOps.subf tx2 tx1) (FloatOps.subf ty2 ty1))) i)
    (Scalar.ofBits .f32 0x33D6BF95#32))

variable (V : Valuation τ sig (Elt F))

set_option maxRecDepth 8192 in
/-- What the loop finds as the ratios. -/
theorem ratio_at (b : Fin 2) (i j : Fin 5000) (B : S2x5000x4.Idx → F .f32) (hB : V (Proc.devRef .tc main_v11) = B) :
    after ratioOps V (Proc.devRef .tc main_v56_0) (ix3 b i j)
      = ratioS (B (ix3 b i 0)) (B (ix3 b i 1)) (B (ix3 b i 2)) (B (ix3 b i 3)) (B (ix3 b j 0)) (B (ix3 b j 1)) (B (ix3 b j 2)) (B (ix3 b j 3)) := by
  after_reads_simp
  rw [hB]
  try simp -implicitDefEqProofs only [StableHlo.TRef.toBuf, StableHlo.TRef.ofBuf, cast_cast, cast_eq]
  clean_types
  simp only [id_eq]
  pointwise [ratioS]

end Cert.ReferenceIdeal.Nms

end
-- ==== Proof.RefValue.lean ====
/-
  What the reference leaves: the scores with the suppressed boxes' replaced, and what is kept through its loop.
-/
module

public import proofs.«01_k».proof.Proof.RefLoop
public import proofs.«01_k».proof.Proof.RefRatio
public import proofs.«01_k».proof.Proof.Host

@[expose] public section

noncomputable section

namespace Cert.ReferenceIdeal.Nms

open Cert.ReferenceIdeal Cert.ReferenceIdeal.Gen Cert.ReferenceIdeal.Value
open Idealize.ShloMosaic Idealize.ShloMosaic.TcCoe
open Idealize.ShloMosaic.StableHlo

variable {F : FTy → Type} [FloatOps F]

/-- A box's coordinate moved by its label's multiple of 801. -/
def movedS (x : F .f32) (l : BitVec 32) : F .f32 :=
  FloatOps.addf x (FloatOps.mulf (FloatOps.sitofp .f32 l) (Scalar.ofBits .f32 0x44484000#32))

section Lines

variable (V : Valuation τ sig (Elt F))

/-- The boxes moved apart, coordinate by coordinate. -/
theorem moved_at (b : Fin 2) (i : Fin 5000) (k : Fin 4) (X : S2x5000x4.Idx → F .f32) (L : S2x5000.Idx → BitVec 32)
    (hX : V (Proc.devRef .tc main_v3) = X) (hL : V (Proc.devRef .tc main_v5) = L) :
    after moveOps V (Proc.devRef .tc main_v11) (ix3 b i k) = movedS (X (ix3 b i k)) (L (ix2 b i)) := by
  after_reads_simp
  rw [hX, hL]
  clean_types
  pointwise [movedS]

theorem split6 : after hostOps0_6 V = after ratioOps (after moveOps V) := by
  rw [← after_append]
  rfl

theorem iota6 : after hostOps0_6 V (Proc.devRef .tc main_v56_1) = iotaInDim S5000 32 0 := by
  after_reads_simp
  rfl
theorem count6 : after hostOps0_6 V (Proc.devRef .tc main_v56_3) = fun _ => 0#32 := by
  after_reads_simp
  rfl
theorem none6 : after hostOps0_6 V (Proc.devRef .tc main_v56_4) = fun _ => 0#1 := by
  after_reads_simp
  rfl
theorem boxes6 : after hostOps0_6 V (Proc.devRef .tc main_v3) = V (Proc.devRef .tc main_v3) := by after_reads_simp
theorem scores6 : after hostOps0_6 V (Proc.devRef .tc main_v4) = V (Proc.devRef .tc main_v4) := by after_reads_simp
theorem labels6 : after hostOps0_6 V (Proc.devRef .tc main_v5) = V (Proc.devRef .tc main_v5) := by after_reads_simp

/-- The suppressed boxes' scores are replaced by minus one. -/
theorem where_at (x : S2x5000.Idx) (S : S2x5000.Idx → BitVec 1) (T : S2x5000.Idx → F .f32) (hS : V (Proc.devRef .tc main_v56_4) = S)
    (hT : V (Proc.devRef .tc main_v4) = T) :
    after (hostOps0_7 ++ hostOps0_8) V (Proc.devRef .tc main_v57) x = if S x = 1#1 then Scalar.ofBits .f32 0xBF800000#32 else T x := by
  after_reads_simp
  rw [hS, hT]
  clean_types
  simp only [id_eq]
  pointwise
  rfl
theorem where_boxes : after (hostOps0_7 ++ hostOps0_8) V (Proc.devRef .tc main_v3) = V (Proc.devRef .tc main_v3) := by after_reads_simp
theorem where_labels : after (hostOps0_7 ++ hostOps0_8) V (Proc.devRef .tc main_v5) = V (Proc.devRef .tc main_v5) := by after_reads_simp

theorem post_split : afterL postI V = after Cert.Nms.postR (after (hostOps0_7 ++ hostOps0_8) V) := by
  simp only [afterL_cons, afterL_nil, Cert.Nms.postR, after_append]

theorem pre_split : afterL preI V = after hostOps0_6 (after Cert.Nms.preR V) := by
  simp only [afterL_cons, afterL_nil, Cert.Nms.preR, after_append]

/-- The operations after the loop write none of the arguments, -/
theorem post_arg0 : afterL postI V (Proc.devRef .tc main_arg0) = V (Proc.devRef .tc main_arg0) := by
  simp only [afterL_cons, afterL_nil]; after_reads_simp
theorem post_arg1 : afterL postI V (Proc.devRef .tc main_arg1) = V (Proc.devRef .tc main_arg1) := by
  simp only [afterL_cons, afterL_nil]; after_reads_simp
theorem post_arg2 : afterL postI V (Proc.devRef .tc main_arg2) = V (Proc.devRef .tc main_arg2) := by
  simp only [afterL_cons, afterL_nil]; after_reads_simp

/-- and nor do those before it. -/
theorem pre_arg0 : afterL preI V (Proc.devRef .tc main_arg0) = V (Proc.devRef .tc main_arg0) := by
  simp only [afterL_cons, afterL_nil]; after_reads_simp
theorem pre_arg1 : afterL preI V (Proc.devRef .tc main_arg1) = V (Proc.devRef .tc main_arg1) := by
  simp only [afterL_cons, afterL_nil]; after_reads_simp
theorem pre_arg2 : afterL preI V (Proc.devRef .tc main_arg2) = V (Proc.devRef .tc main_arg2) := by
  simp only [afterL_cons, afterL_nil]; after_reads_simp

end Lines

variable (m : (ℓ : Loc nD τ sig) → Buf (Elt F) ℓ) (c : Dev nD)

/-- What the loop does not write it leaves. -/
theorem loop_keeps (r : Ref sig .tc) (hb : r ∉ while0Ops0_W) (hc : r ∉ condOps_W) :
    ∀ k, atK m k c (Proc.devRef .tc r) = entryContents preI m c (Proc.devRef .tc r)
  | 0 => rfl
  | k + 1 => by
    show after while0Ops0 (after condOps (atK m k c)) _ = _
    rw [after_of_writes_sub _ _ while0Ops0_writes hb, after_of_writes_sub _ _ condOps_writes hc]
    exact loop_keeps r hb hc k

/-- What the loop leaves, once its condition has failed. -/
def afterLoop : Valuation τ sig (Elt F) := after condOps (atK m 5000 c)

theorem afterLoop_keeps (r : Ref sig .tc) (hb : r ∉ while0Ops0_W) (hc : r ∉ condOps_W) :
    afterLoop m c (Proc.devRef .tc r) = entryContents preI m c (Proc.devRef .tc r) := by
  unfold afterLoop
  rw [after_of_writes_sub _ _ condOps_writes hc, loop_keeps m c r hb hc]

/-- The sorted boxes, scores and labels, -/
def sorted : Valuation τ sig (Elt F) := after Cert.Nms.preR (launchContents m c)

theorem entry_eq : entryContents preI m c = after hostOps0_6 (sorted m c) := pre_split _

/-- the boxes moved apart, -/
def moved : S2x5000x4.Idx → F .f32 := after moveOps (sorted m c) (Proc.devRef .tc main_v11)

/-- the boxes that overlap, -/
def overlap (b : Fin 2) (i j : ℕ) : Bool :=
  if h : i < 5000 ∧ j < 5000 then decide (FloatOps.cmpf .ogt (ratioS (moved m c (ix3 b ⟨i, h.1⟩ 0)) (moved m c (ix3 b ⟨i, h.1⟩ 1)) (moved m c (ix3 b ⟨i, h.1⟩ 2)) (moved m c (ix3 b ⟨i, h.1⟩ 3))
    (moved m c (ix3 b ⟨j, h.2⟩ 0)) (moved m c (ix3 b ⟨j, h.2⟩ 1)) (moved m c (ix3 b ⟨j, h.2⟩ 2)) (moved m c (ix3 b ⟨j, h.2⟩ 3))) (Scalar.ofBits .f32 0x3F000000#32) = 1#1) else false

theorem overlap_eq (b : Fin 2) : adjR (F := F) (entryContents preI m c (Proc.devRef .tc main_v56_0)) b = overlap m c b := by
  funext i j
  unfold adjR overlap
  split
  · rename_i h
    rw [entry_eq, split6]
    exact congrArg (fun z => decide (FloatOps.cmpf .ogt z (Scalar.ofBits .f32 0x3F000000#32) = 1#1)) (ratio_at _ b ⟨i, h.1⟩ ⟨j, h.2⟩ (moved m c) rfl)
  · rfl

/-- The boxes the loop leaves suppressed. -/
theorem suppressed_at (b : Fin 2) (j : Fin 5000) (S : S2x5000.Idx → BitVec 1) (hS : afterLoop m c (Proc.devRef .tc main_v56_4) = S) :
    S (ix2 b j) = 1#1 ↔ Cert.Nms.supp (overlap m c b) j.val = true := by
  have h := loop_at (entryContents preI m c) (by rw [entry_eq]; exact iota6 _) (by rw [entry_eq]; exact count6 _) (by rw [entry_eq]; exact none6 _) b j
  rw [overlap_eq] at h
  have hE : S = (STEP^[5000] (entryContents preI m c)) (Proc.devRef .tc main_v56_4) :=
    hS.symm.trans ((cond_keeps (atK m 5000 c) main_v56_4 (by decide)).trans (atK_agree m c 5000 main_v56_4 (by decide)))
  refine (iff_of_eq ?_).trans h
  unfold mark
  rw [hE]

/-- What the operations after the loop select from. -/
def selectFrom : Valuation τ sig (Elt F) := after (hostOps0_7 ++ hostOps0_8) (afterLoop m c)

theorem final_eq : finalContents condOps preI bodyI postI 5000 m c = after Cert.Nms.postR (selectFrom m c) := post_split _

/-- The scores they select by, -/
theorem from_scores (b : Fin 2) (j : Fin 5000) (T : S2x5000.Idx → F .f32) (hT : sorted m c (Proc.devRef .tc main_v4) = T)
    (Z : S2x5000.Idx → F .f32) (hZ : selectFrom m c (Proc.devRef .tc main_v57) = Z) :
    Z (ix2 b j) = if Cert.Nms.supp (overlap m c b) j.val = true then Scalar.ofBits .f32 0xBF800000#32 else T (ix2 b j) := by
  rw [← hZ]
  refine (where_at (afterLoop m c) (ix2 b j) _ T rfl ?_).trans ?_
  · rw [afterLoop_keeps m c _ (by decide) (by decide), entry_eq, scores6, hT]
  · exact if_congr (suppressed_at m c b j _ rfl) rfl rfl

/-- the boxes, -/
theorem from_boxes : selectFrom m c (Proc.devRef .tc main_v3) = sorted m c (Proc.devRef .tc main_v3) := by
  unfold selectFrom
  rw [where_boxes, afterLoop_keeps m c _ (by decide) (by decide), entry_eq, boxes6]
/-- and the labels. -/
theorem from_labels : selectFrom m c (Proc.devRef .tc main_v5) = sorted m c (Proc.devRef .tc main_v5) := by
  unfold selectFrom
  rw [where_labels, afterLoop_keeps m c _ (by decide) (by decide), entry_eq, labels6]

/-- The arguments end as they began. -/
theorem final_arg0 : finalContents condOps preI bodyI postI 5000 m c (Proc.devRef .tc main_arg0) = m (c, Proc.devRef .tc main_arg0) := by
  refine (post_arg0 (afterLoop m c)).trans ?_
  rw [afterLoop_keeps m c _ (by decide) (by decide)]
  exact pre_arg0 _
theorem final_arg1 : finalContents condOps preI bodyI postI 5000 m c (Proc.devRef .tc main_arg1) = m (c, Proc.devRef .tc main_arg1) := by
  refine (post_arg1 (afterLoop m c)).trans ?_
  rw [afterLoop_keeps m c _ (by decide) (by decide)]
  exact pre_arg1 _
theorem final_arg2 : finalContents condOps preI bodyI postI 5000 m c (Proc.devRef .tc main_arg2) = m (c, Proc.devRef .tc main_arg2) := by
  refine (post_arg2 (afterLoop m c)).trans ?_
  rw [afterLoop_keeps m c _ (by decide) (by decide)]
  exact pre_arg2 _

end Cert.ReferenceIdeal.Nms

end
-- ==== Proof.Equal.lean ====
/-
  The kernel's results are the reference's, over the extended reals.
-/
module

public import proofs.«01_k».proof.Proof.KernelValue
public import proofs.«01_k».proof.Proof.RefValue

@[expose] public section

noncomputable section

namespace Cert.Nms

open Idealize.ShloMosaic Idealize.ShloMosaic.TcCoe
open Idealize.ShloMosaic.StableHlo
open Cert.KernelIdeal.Nms (bit bit_ideal)

theorem half_eq : (Scalar.ofBits .f32 0x3F000000#32 : Ideal .f32) = ((1 / 2 : ℝ) : EReal) := by
  show Ideal.ofBits .f32 0x3F000000#32 = _
  simp [Ideal.ofBits, Ideal.ieee, -EReal.coe_mul]; norm_num

/-- A mark of zero or one is above a half exactly when it is one. -/
theorem above_half (s : Bool) : FloatOps.cmpf .ogt (bit (F := Ideal) s) (Scalar.ofBits .f32 0x3F000000#32) = 1#1 ↔ s = true := by
  rw [half_eq, bit_ideal]
  show BitVec.ofBool (decide (((1 / 2 : ℝ) : EReal) < if s then (1 : EReal) else 0)) = 1#1 ↔ _
  have h1 : (((1 / 2 : ℝ) : EReal) < 1) := by rw [← EReal.coe_one, EReal.coe_lt_coe_iff]; norm_num
  have h0 : ¬ (((1 / 2 : ℝ) : EReal) < 0) := by rw [← EReal.coe_zero, EReal.coe_lt_coe_iff]; norm_num
  cases s
  · simp only [Bool.false_eq_true, if_false, decide_eq_false h0]; decide
  · simp only [if_true, decide_eq_true h1]; decide

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include h0 h1 h2

/-- From the same arguments both sort the same boxes, -/
theorem same_boxes : Cert.ReferenceIdeal.Nms.sorted m' c (Proc.devRef .tc Cert.ReferenceIdeal.main_v3) = Cert.KernelIdeal.Nms.sorted m c (Proc.devRef .tc Cert.KernelIdeal.main_v3) :=
  sorted_boxes _ _ h0 h1 h2
/-- the same scores, -/
theorem same_scores : Cert.ReferenceIdeal.Nms.sorted m' c (Proc.devRef .tc Cert.ReferenceIdeal.main_v4) = Cert.KernelIdeal.Nms.sorted m c (Proc.devRef .tc Cert.KernelIdeal.main_v4) :=
  sorted_scores _ _ h0 h1 h2
/-- and the same labels, -/
theorem same_labels : Cert.ReferenceIdeal.Nms.sorted m' c (Proc.devRef .tc Cert.ReferenceIdeal.main_v5) = Cert.KernelIdeal.Nms.sorted m c (Proc.devRef .tc Cert.KernelIdeal.main_v5) :=
  sorted_labels _ _ h0 h1 h2

/-- take the same pairs for overlapping, of those the suppression asks about, -/
theorem same_overlap (b : Fin 2) (i j : ℕ) (h : i < j) (hj : j < 5000) :
    Cert.KernelIdeal.Nms.adjN (Cert.KernelIdeal.Nms.rows m c b) (Cert.KernelIdeal.Nms.cols m c b) i j = Cert.ReferenceIdeal.Nms.overlap m' c b i j := by
  rw [Cert.KernelIdeal.Nms.overlap_eq m c b i j h hj _ _ rfl rfl]
  unfold Cert.ReferenceIdeal.Nms.overlap
  rw [dif_pos ⟨by omega, hj⟩]
  have hm : ∀ (n : Fin 5000) (k : Fin 4), Cert.ReferenceIdeal.Nms.moved m' c (ix3 b n k)
      = Cert.ReferenceIdeal.Nms.movedS ((Cert.KernelIdeal.Nms.sorted m c (Proc.devRef .tc Cert.KernelIdeal.main_v3) : Cert.KernelIdeal.S2x5000x4.Idx → Ideal .f32) (ix3 b n k))
        ((Cert.KernelIdeal.Nms.sorted m c (Proc.devRef .tc Cert.KernelIdeal.main_v5) : Cert.KernelIdeal.S2x5000.Idx → BitVec 32) (ix2 b n)) := fun n k =>
    Cert.ReferenceIdeal.Nms.moved_at _ b n k _ _ (same_boxes m m' c h0 h1 h2) (same_labels m m' c h0 h1 h2)
  simp only [hm]
  rfl

/-- suppress the same boxes, so that they select by the same scores, -/
theorem same_select : Cert.ReferenceIdeal.Nms.selectFrom m' c (Proc.devRef .tc Cert.ReferenceIdeal.main_v57)
    = Cert.KernelIdeal.Nms.selectFrom m c (Proc.devRef .tc Cert.KernelIdeal.main_v19) := by
  refine funext fun (x : Cert.KernelIdeal.S2x5000.Idx) => ?_
  obtain ⟨b, hb⟩ : ∃ b : Fin 2, b = x 0 := ⟨_, rfl⟩
  obtain ⟨j, hj⟩ : ∃ j : Fin 5000, j = x 1 := ⟨_, rfl⟩
  have hx : x = ix2 b j := by funext a; fin_cases a <;> simp [hb, hj]
  rw [hx]
  refine (Cert.ReferenceIdeal.Nms.from_scores m' c b j _ (same_scores m m' c h0 h1 h2) _ rfl).trans
    (Eq.trans ?_ (Cert.KernelIdeal.Nms.from_scores m c b j _ rfl _ rfl).symm)
  refine if_congr ?_ rfl rfl
  rw [above_half, supp_congr 5000 (fun i j hij hj => same_overlap m m' c h0 h1 h2 b i j hij hj) j.val j.isLt]

/-- and leave the same detections -/
theorem same_detections : after postR (Cert.ReferenceIdeal.Nms.selectFrom m' c) (Proc.devRef .tc Cert.ReferenceIdeal.main_v62)
    = after postK (Cert.KernelIdeal.Nms.selectFrom m c) (Proc.devRef .tc Cert.KernelIdeal.main_v24) :=
  selected_boxes _ _ (same_select m m' c h0 h1 h2)
    (by rw [Cert.ReferenceIdeal.Nms.from_boxes, Cert.KernelIdeal.Nms.from_boxes]; exact same_boxes m m' c h0 h1 h2)
/-- and labels. -/
theorem same_results : after postR (Cert.ReferenceIdeal.Nms.selectFrom m' c) (Proc.devRef .tc Cert.ReferenceIdeal.main_v60)
    = after postK (Cert.KernelIdeal.Nms.selectFrom m c) (Proc.devRef .tc Cert.KernelIdeal.main_v22) :=
  selected_labels _ _ (same_select m m' c h0 h1 h2)
    (by rw [Cert.ReferenceIdeal.Nms.from_labels, Cert.KernelIdeal.Nms.from_labels]; exact same_labels m m' c h0 h1 h2)

end Cert.Nms

end
-- ==== Proof.lean ====
/-
  The certificate: the kernel and the reference run, leave their arguments and counters as they were, and end with the same
  detections and labels over the extended reals.
-/
module

public import proofs.«01_k».proof.Defs
public import proofs.«01_k».proof.Proof.Equal
public import Idealize.ShloMosaic.Lib.Quiescent

@[expose] public section

noncomputable section

namespace Cert.Proof

open Idealize.ShloMosaic Idealize.ShloMosaic.TcCoe Idealize.SL.Sem
open Idealize.ShloMosaic.StableHlo
open Cert.ReferenceIdeal.Value

/-- The reference's run: its results, its arguments and its counters. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_v62)
          = after Cert.Nms.postR (Cert.ReferenceIdeal.Nms.selectFrom m c) (Proc.devRef .tc Cert.ReferenceIdeal.main_v62)
        ∧ r.2.mem ((c.tc : Thread Cert.ReferenceIdeal.nD Cert.ReferenceIdeal.τ).loc Cert.ReferenceIdeal.main_v60)
          = after Cert.Nms.postR (Cert.ReferenceIdeal.Nms.selectFrom m c) (Proc.devRef .tc Cert.ReferenceIdeal.main_v60)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  θ_run_mono (run_fold m g) fun r h => ⟨fun c =>
    ⟨(h c Cert.ReferenceIdeal.main_v62 (by decide)).trans (congrFun (Cert.ReferenceIdeal.Nms.final_eq m c) _),
      (h c Cert.ReferenceIdeal.main_v60 (by decide)).trans (congrFun (Cert.ReferenceIdeal.Nms.final_eq m c) _),
      (h c Cert.ReferenceIdeal.main_arg0 (by decide)).trans (Cert.ReferenceIdeal.Nms.final_arg0 m c),
      (h c Cert.ReferenceIdeal.main_arg1 (by decide)).trans (Cert.ReferenceIdeal.Nms.final_arg1 m c),
      (h c Cert.ReferenceIdeal.main_arg2 (by decide)).trans (Cert.ReferenceIdeal.Nms.final_arg2 m c)⟩,
    sem_eq_zero_of_no_sems (by decide) r.2⟩

/-- Both programs run and leave their arguments and counters as they were; from the same arguments they end with the same results. -/
theorem claim : Cert.Claim := ⟨Cert.KernelIdeal.Gen.facts, Cert.ReferenceIdeal.Gen.facts,
  fun m g _ => θ_run_mono (Cert.KernelIdeal.Nms.run_values m g) fun r h => ⟨fun c => (h.1 c).2.2, h.2⟩,
  fun m g _ => θ_run_mono (reference_run m g) fun r h => ⟨fun c => (h.1 c).2.2, h.2⟩,
  fun m g m' g' _ hargs =>
    ⟨fun c => after Cert.Nms.postK (Cert.KernelIdeal.Nms.selectFrom m c) (Proc.devRef .tc Cert.KernelIdeal.main_v24),
      fun c => after Cert.Nms.postK (Cert.KernelIdeal.Nms.selectFrom m c) (Proc.devRef .tc Cert.KernelIdeal.main_v22),
      θ_run_mono (Cert.KernelIdeal.Nms.run_values m g) fun r h => h.1,
      θ_run_mono (reference_run m' g') fun r h c =>
        ⟨(h.1 c).1.trans (Cert.Nms.same_detections m m' c (hargs c).1 (hargs c).2.1 (hargs c).2.2),
          (h.1 c).2.1.trans (Cert.Nms.same_results m m' c (hargs c).1 (hargs c).2.1 (hargs c).2.2), (h.1 c).2.2⟩⟩⟩

end Cert.Proof

end
